-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpIdeal_valid_meta [hPre_valid_meta : Cert.Pre_valid_meta.Facts] (m : (ℓ : Loc Cert.GateUpIdeal.nD Cert.GateUpIdeal.τ Cert.GateUpIdeal.sig) → Buf (Elt Ideal) ℓ) : Prop :=
  ∀ c : Dev Cert.GateUpIdeal.nD,
    (Cert.Pre_valid_meta.fn (F := Ideal) (m ((c.tc : Thread Cert.GateUpIdeal.nD Cert.GateUpIdeal.τ).loc Cert.GateUpIdeal.main_arg0)) (m ((c.tc : Thread Cert.GateUpIdeal.nD Cert.GateUpIdeal.τ).loc Cert.GateUpIdeal.main_arg1)) (m ((c.tc : Thread Cert.GateUpIdeal.nD Cert.GateUpIdeal.τ).loc Cert.GateUpIdeal.main_arg2)) (m ((c.tc : Thread Cert.GateUpIdeal.nD Cert.GateUpIdeal.τ).loc Cert.GateUpIdeal.main_arg3)) (m ((c.tc : Thread Cert.GateUpIdeal.nD Cert.GateUpIdeal.τ).loc Cert.GateUpIdeal.main_arg4))) = (fun _ => 1#1)

def Pre_GateUpRefIdeal (m : (ℓ : Loc Cert.GateUpRefIdeal.nD Cert.GateUpRefIdeal.τ Cert.GateUpRefIdeal.sig) → Buf (Elt Ideal) ℓ) : Prop :=
  True

def Pre_GateUpRefIdeal_valid_meta [hPre_valid_meta : Cert.Pre_valid_meta.Facts] (m : (ℓ : Loc Cert.GateUpRefIdeal.nD Cert.GateUpRefIdeal.τ Cert.GateUpRefIdeal.sig) → Buf (Elt Ideal) ℓ) : Prop :=
  ∀ c : Dev Cert.GateUpRefIdeal.nD,
    (Cert.Pre_valid_meta.fn (F := Ideal) (m ((c.tc : Thread Cert.GateUpRefIdeal.nD Cert.GateUpRefIdeal.τ).loc Cert.GateUpRefIdeal.main_arg0)) (m ((c.tc : Thread Cert.GateUpRefIdeal.nD Cert.GateUpRefIdeal.τ).loc Cert.GateUpRefIdeal.main_arg1)) (m ((c.tc : Thread Cert.GateUpRefIdeal.nD Cert.GateUpRefIdeal.τ).loc Cert.GateUpRefIdeal.main_arg2)) (m ((c.tc : Thread Cert.GateUpRefIdeal.nD Cert.GateUpRefIdeal.τ).loc Cert.GateUpRefIdeal.main_arg3)) (m ((c.tc : Thread Cert.GateUpRefIdeal.nD Cert.GateUpRefIdeal.τ).loc Cert.GateUpRefIdeal.main_arg4))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_valid_meta_out [hPre_valid_meta_out : Cert.Pre_valid_meta_out.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_valid_meta_out.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_valid_meta_out [hPre_valid_meta_out : Cert.Pre_valid_meta_out.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_valid_meta_out.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5))) = (fun _ => 1#1)

def Pre_NormQuant (m : (ℓ : Loc Cert.NormQuant.nD Cert.NormQuant.τ Cert.NormQuant.sig) → Buf (Elt Bits) ℓ) : Prop :=
  True

def Pre_NormQuantIdeal (m : (ℓ : Loc Cert.NormQuantIdeal.nD Cert.NormQuantIdeal.τ Cert.NormQuantIdeal.sig) → Buf (Elt Ideal) ℓ) : Prop :=
  True

def Pre_NormQuantRefIdeal (m : (ℓ : Loc Cert.NormQuantRefIdeal.nD Cert.NormQuantRefIdeal.τ Cert.NormQuantRefIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_NormQuantH (m : (ℓ : Loc Cert.NormQuantH.nD Cert.NormQuantH.τ Cert.NormQuantH.sig) → Buf (Elt Bits) ℓ) : Prop :=
  True

def Pre_NormQuantHIdeal (m : (ℓ : Loc Cert.NormQuantHIdeal.nD Cert.NormQuantHIdeal.τ Cert.NormQuantHIdeal.sig) → Buf (Elt Ideal) ℓ) : Prop :=
  True

def Pre_NormQuantHRefIdeal (m : (ℓ : Loc Cert.NormQuantHRefIdeal.nD Cert.NormQuantHRefIdeal.τ Cert.NormQuantHRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpIdeal_pre_valid_meta [hGateUpIdeal : Cert.GateUpIdeal.Facts] [hPre_valid_meta : Cert.Pre_valid_meta.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal_valid_meta m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_GateUpRefIdeal_pre_valid_meta [hGateUpRefIdeal : Cert.GateUpRefIdeal.Facts] [hPre_valid_meta : Cert.Pre_valid_meta.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal_valid_meta m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjIdeal_pre_valid_meta_out [hOutProjIdeal : Cert.OutProjIdeal.Facts] [hPre_valid_meta_out : Cert.Pre_valid_meta_out.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_valid_meta_out m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_OutProjRefIdeal_pre_valid_meta_out [hOutProjRefIdeal : Cert.OutProjRefIdeal.Facts] [hPre_valid_meta_out : Cert.Pre_valid_meta_out.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_valid_meta_out m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_NormQuant [hNormQuant : Cert.NormQuant.Facts] : Prop :=
  ∀ (m : (ℓ : Loc Cert.NormQuant.nD Cert.NormQuant.τ Cert.NormQuant.sig) → Buf (Elt Bits) ℓ) (g : Dev Cert.NormQuant.nD → PrngReg), Pre_NormQuant m →
    θ_run (Cert.NormQuant.defs (F := Bits)) (onTc (τ := Cert.NormQuant.τ) (Cert.NormQuant.main (F := Bits))) ⟨m, fun _ => 0, g⟩ (fun r => (∀ c : Dev Cert.NormQuant.nD,
      r.2.mem ((c.tc : Thread Cert.NormQuant.nD Cert.NormQuant.τ).loc Cert.NormQuant.main_arg0) = m ((c.tc : Thread Cert.NormQuant.nD Cert.NormQuant.τ).loc Cert.NormQuant.main_arg0)
      ∧ r.2.mem ((c.tc : Thread Cert.NormQuant.nD Cert.NormQuant.τ).loc Cert.NormQuant.main_arg1) = m ((c.tc : Thread Cert.NormQuant.nD Cert.NormQuant.τ).loc Cert.NormQuant.main_arg1))
      ∧ r.2.sem = fun _ => 0)

def quiescent_NormQuantIdeal [hNormQuantIdeal : Cert.NormQuantIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg), Pre_NormQuantIdeal m →
    θ_run (Cert.NormQuantIdeal.defs (F := Ideal)) (onTc (τ := Cert.NormQuantIdeal.τ) (Cert.NormQuantIdeal.main (F := Ideal))) ⟨m, fun _ => 0, g⟩ (fun r => (∀ c : Dev Cert.NormQuantIdeal.nD,
      r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
      ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1))
      ∧ r.2.sem = fun _ => 0)

def quiescent_NormQuantRefIdeal [hNormQuantRefIdeal : Cert.NormQuantRefIdeal.Facts] : Prop :=
  ∀ (m : (ℓ : Loc Cert.NormQuantRefIdeal.nD Cert.NormQuantRefIdeal.τ Cert.NormQuantRefIdeal.sig) → Buf (Elt Ideal) ℓ) (g : Dev Cert.NormQuantRefIdeal.nD → PrngReg), Pre_NormQuantRefIdeal m →
    θ_run (Cert.NormQuantRefIdeal.defs (F := Ideal)) (onTc (τ := Cert.NormQuantRefIdeal.τ) (Cert.NormQuantRefIdeal.main (F := Ideal))) ⟨m, fun _ => 0, g⟩ (fun r => (∀ c : Dev Cert.NormQuantRefIdeal.nD,
      r.2.mem ((c.tc : Thread Cert.NormQuantRefIdeal.nD Cert.NormQuantRefIdeal.τ).loc Cert.NormQuantRefIdeal.main_arg0) = m ((c.tc : Thread Cert.NormQuantRefIdeal.nD Cert.NormQuantRefIdeal.τ).loc Cert.NormQuantRefIdeal.main_arg0)
      ∧ r.2.mem ((c.tc : Thread Cert.NormQuantRefIdeal.nD Cert.NormQuantRefIdeal.τ).loc Cert.NormQuantRefIdeal.main_arg1) = m ((c.tc : Thread Cert.NormQuantRefIdeal.nD Cert.NormQuantRefIdeal.τ).loc Cert.NormQuantRefIdeal.main_arg1))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0))
      ∧ r.2.sem = fun _ => 0)

def quiescent_NormQuantH [hNormQuantH : Cert.NormQuantH.Facts] : Prop :=
  ∀ (m : (ℓ : Loc Cert.NormQuantH.nD Cert.NormQuantH.τ Cert.NormQuantH.sig) → Buf (Elt Bits) ℓ) (g : Dev Cert.NormQuantH.nD → PrngReg), Pre_NormQuantH m →
    θ_run (Cert.NormQuantH.defs (F := Bits)) (onTc (τ := Cert.NormQuantH.τ) (Cert.NormQuantH.main (F := Bits))) ⟨m, fun _ => 0, g⟩ (fun r => (∀ c : Dev Cert.NormQuantH.nD,
      r.2.mem ((c.tc : Thread Cert.NormQuantH.nD Cert.NormQuantH.τ).loc Cert.NormQuantH.main_arg0) = m ((c.tc : Thread Cert.NormQuantH.nD Cert.NormQuantH.τ).loc Cert.NormQuantH.main_arg0)
      ∧ r.2.mem ((c.tc : Thread Cert.NormQuantH.nD Cert.NormQuantH.τ).loc Cert.NormQuantH.main_arg1) = m ((c.tc : Thread Cert.NormQuantH.nD Cert.NormQuantH.τ).loc Cert.NormQuantH.main_arg1))
      ∧ r.2.sem = fun _ => 0)

def quiescent_NormQuantHIdeal [hNormQuantHIdeal : Cert.NormQuantHIdeal.Facts] : Prop :=
  ∀ (m : (ℓ : Loc Cert.NormQuantHIdeal.nD Cert.NormQuantHIdeal.τ Cert.NormQuantHIdeal.sig) → Buf (Elt Ideal) ℓ) (g : Dev Cert.NormQuantHIdeal.nD → PrngReg), Pre_NormQuantHIdeal m →
    θ_run (Cert.NormQuantHIdeal.defs (F := Ideal)) (onTc (τ := Cert.NormQuantHIdeal.τ) (Cert.NormQuantHIdeal.main (F := Ideal))) ⟨m, fun _ => 0, g⟩ (fun r => (∀ c : Dev Cert.NormQuantHIdeal.nD,
      r.2.mem ((c.tc : Thread Cert.NormQuantHIdeal.nD Cert.NormQuantHIdeal.τ).loc Cert.NormQuantHIdeal.main_arg0) = m ((c.tc : Thread Cert.NormQuantHIdeal.nD Cert.NormQuantHIdeal.τ).loc Cert.NormQuantHIdeal.main_arg0)
      ∧ r.2.mem ((c.tc : Thread Cert.NormQuantHIdeal.nD Cert.NormQuantHIdeal.τ).loc Cert.NormQuantHIdeal.main_arg1) = m ((c.tc : Thread Cert.NormQuantHIdeal.nD Cert.NormQuantHIdeal.τ).loc Cert.NormQuantHIdeal.main_arg1))
      ∧ r.2.sem = fun _ => 0)

def quiescent_NormQuantHRefIdeal [hNormQuantHRefIdeal : Cert.NormQuantHRefIdeal.Facts] : Prop :=
  ∀ (m : (ℓ : Loc Cert.NormQuantHRefIdeal.nD Cert.NormQuantHRefIdeal.τ Cert.NormQuantHRefIdeal.sig) → Buf (Elt Ideal) ℓ) (g : Dev Cert.NormQuantHRefIdeal.nD → PrngReg), Pre_NormQuantHRefIdeal m →
    θ_run (Cert.NormQuantHRefIdeal.defs (F := Ideal)) (onTc (τ := Cert.NormQuantHRefIdeal.τ) (Cert.NormQuantHRefIdeal.main (F := Ideal))) ⟨m, fun _ => 0, g⟩ (fun r => (∀ c : Dev Cert.NormQuantHRefIdeal.nD,
      r.2.mem ((c.tc : Thread Cert.NormQuantHRefIdeal.nD Cert.NormQuantHRefIdeal.τ).loc Cert.NormQuantHRefIdeal.main_arg0) = m ((c.tc : Thread Cert.NormQuantHRefIdeal.nD Cert.NormQuantHRefIdeal.τ).loc Cert.NormQuantHRefIdeal.main_arg0)
      ∧ r.2.mem ((c.tc : Thread Cert.NormQuantHRefIdeal.nD Cert.NormQuantHRefIdeal.τ).loc Cert.NormQuantHRefIdeal.main_arg1) = m ((c.tc : Thread Cert.NormQuantHRefIdeal.nD Cert.NormQuantHRefIdeal.τ).loc Cert.NormQuantHRefIdeal.main_arg1))
      ∧ r.2.sem = fun _ => 0)

def preserves_GateUp_GateUpIdeal : Prop :=
  True

def algebraic_GateUpIdeal_GateUpRefIdeal_pre_valid_meta [hGateUpIdeal : Cert.GateUpIdeal.Facts] [hGateUpRefIdeal : Cert.GateUpRefIdeal.Facts] [hPre_valid_meta : Cert.Pre_valid_meta.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal_valid_meta m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v5_0)) (v1 : (c : Dev Cert.GateUpIdeal.nD) → Buf (Elt Ideal) ((c.tc : Thread Cert.GateUpIdeal.nD Cert.GateUpIdeal.τ).loc Cert.GateUpIdeal.main_v5_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v5_0) = v0 c
          ∧ r.2.mem ((c.tc : Thread Cert.GateUpIdeal.nD Cert.GateUpIdeal.τ).loc Cert.GateUpIdeal.main_v5_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v19_0) = v0 c
          ∧ r.2.mem ((c.tc : Thread Cert.GateUpRefIdeal.nD Cert.GateUpRefIdeal.τ).loc Cert.GateUpRefIdeal.main_v19_1) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_OutProj_OutProjIdeal : Prop :=
  True

def algebraic_OutProjIdeal_OutProjRefIdeal_pre_valid_meta_out [hOutProjIdeal : Cert.OutProjIdeal.Facts] [hOutProjRefIdeal : Cert.OutProjRefIdeal.Facts] [hPre_valid_meta_out : Cert.Pre_valid_meta_out.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_valid_meta_out m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v5)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v19) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_NormQuant_NormQuantIdeal : Prop :=
  True

def algebraic_NormQuantIdeal_NormQuantRefIdeal [hNormQuantIdeal : Cert.NormQuantIdeal.Facts] [hNormQuantRefIdeal : Cert.NormQuantRefIdeal.Facts] : Prop :=
  ∀ (m : (ℓ : Loc Cert.NormQuantIdeal.nD Cert.NormQuantIdeal.τ Cert.NormQuantIdeal.sig) → Buf (Elt Ideal) ℓ) (g : Dev Cert.NormQuantIdeal.nD → PrngReg)
    (m' : (ℓ : Loc Cert.NormQuantRefIdeal.nD Cert.NormQuantRefIdeal.τ Cert.NormQuantRefIdeal.sig) → Buf (Elt Ideal) ℓ) (g' : Dev Cert.NormQuantRefIdeal.nD → PrngReg), Pre_NormQuantIdeal m →
    (∀ c : Dev Cert.NormQuantIdeal.nD,
      m' ((c.tc : Thread Cert.NormQuantRefIdeal.nD Cert.NormQuantRefIdeal.τ).loc Cert.NormQuantRefIdeal.main_arg0) = m ((c.tc : Thread Cert.NormQuantIdeal.nD Cert.NormQuantIdeal.τ).loc Cert.NormQuantIdeal.main_arg0)
      ∧ m' ((c.tc : Thread Cert.NormQuantRefIdeal.nD Cert.NormQuantRefIdeal.τ).loc Cert.NormQuantRefIdeal.main_arg1) = m ((c.tc : Thread Cert.NormQuantIdeal.nD Cert.NormQuantIdeal.τ).loc Cert.NormQuantIdeal.main_arg1)) →
    ∃ (v0 : (c : Dev Cert.NormQuantIdeal.nD) → Buf (Elt Ideal) ((c.tc : Thread Cert.NormQuantIdeal.nD Cert.NormQuantIdeal.τ).loc Cert.NormQuantIdeal.main_v1_0)) (v1 : (c : Dev Cert.NormQuantIdeal.nD) → Buf (Elt Ideal) ((c.tc : Thread Cert.NormQuantIdeal.nD Cert.NormQuantIdeal.τ).loc Cert.NormQuantIdeal.main_v1_1)),
      θ_run (Cert.NormQuantIdeal.defs (F := Ideal)) (onTc (τ := Cert.NormQuantIdeal.τ) (Cert.NormQuantIdeal.main (F := Ideal))) ⟨m, fun _ => 0, g⟩ (fun r => ∀ c : Dev Cert.NormQuantIdeal.nD,
          r.2.mem ((c.tc : Thread Cert.NormQuantIdeal.nD Cert.NormQuantIdeal.τ).loc Cert.NormQuantIdeal.main_v1_0) = v0 c
          ∧ r.2.mem ((c.tc : Thread Cert.NormQuantIdeal.nD Cert.NormQuantIdeal.τ).loc Cert.NormQuantIdeal.main_v1_1) = v1 c
          ∧ r.2.mem ((c.tc : Thread Cert.NormQuantIdeal.nD Cert.NormQuantIdeal.τ).loc Cert.NormQuantIdeal.main_arg0) = m ((c.tc : Thread Cert.NormQuantIdeal.nD Cert.NormQuantIdeal.τ).loc Cert.NormQuantIdeal.main_arg0)
          ∧ r.2.mem ((c.tc : Thread Cert.NormQuantIdeal.nD Cert.NormQuantIdeal.τ).loc Cert.NormQuantIdeal.main_arg1) = m ((c.tc : Thread Cert.NormQuantIdeal.nD Cert.NormQuantIdeal.τ).loc Cert.NormQuantIdeal.main_arg1))
      ∧ θ_run (Cert.NormQuantRefIdeal.defs (F := Ideal)) (onTc (τ := Cert.NormQuantRefIdeal.τ) (Cert.NormQuantRefIdeal.main (F := Ideal))) ⟨m', fun _ => 0, g'⟩ (fun r => ∀ c : Dev Cert.NormQuantRefIdeal.nD,
          r.2.mem ((c.tc : Thread Cert.NormQuantRefIdeal.nD Cert.NormQuantRefIdeal.τ).loc Cert.NormQuantRefIdeal.main_v1_0) = v0 c
          ∧ r.2.mem ((c.tc : Thread Cert.NormQuantRefIdeal.nD Cert.NormQuantRefIdeal.τ).loc Cert.NormQuantRefIdeal.main_v1_1) = v1 c
          ∧ r.2.mem ((c.tc : Thread Cert.NormQuantRefIdeal.nD Cert.NormQuantRefIdeal.τ).loc Cert.NormQuantRefIdeal.main_arg0) = m' ((c.tc : Thread Cert.NormQuantRefIdeal.nD Cert.NormQuantRefIdeal.τ).loc Cert.NormQuantRefIdeal.main_arg0)
          ∧ r.2.mem ((c.tc : Thread Cert.NormQuantRefIdeal.nD Cert.NormQuantRefIdeal.τ).loc Cert.NormQuantRefIdeal.main_arg1) = m' ((c.tc : Thread Cert.NormQuantRefIdeal.nD Cert.NormQuantRefIdeal.τ).loc Cert.NormQuantRefIdeal.main_arg1))

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0))

def preserves_NormQuantH_NormQuantHIdeal : Prop :=
  True

def algebraic_NormQuantHIdeal_NormQuantHRefIdeal [hNormQuantHIdeal : Cert.NormQuantHIdeal.Facts] [hNormQuantHRefIdeal : Cert.NormQuantHRefIdeal.Facts] : Prop :=
  ∀ (m : (ℓ : Loc Cert.NormQuantHIdeal.nD Cert.NormQuantHIdeal.τ Cert.NormQuantHIdeal.sig) → Buf (Elt Ideal) ℓ) (g : Dev Cert.NormQuantHIdeal.nD → PrngReg)
    (m' : (ℓ : Loc Cert.NormQuantHRefIdeal.nD Cert.NormQuantHRefIdeal.τ Cert.NormQuantHRefIdeal.sig) → Buf (Elt Ideal) ℓ) (g' : Dev Cert.NormQuantHRefIdeal.nD → PrngReg), Pre_NormQuantHIdeal m →
    (∀ c : Dev Cert.NormQuantHIdeal.nD,
      m' ((c.tc : Thread Cert.NormQuantHRefIdeal.nD Cert.NormQuantHRefIdeal.τ).loc Cert.NormQuantHRefIdeal.main_arg0) = m ((c.tc : Thread Cert.NormQuantHIdeal.nD Cert.NormQuantHIdeal.τ).loc Cert.NormQuantHIdeal.main_arg0)
      ∧ m' ((c.tc : Thread Cert.NormQuantHRefIdeal.nD Cert.NormQuantHRefIdeal.τ).loc Cert.NormQuantHRefIdeal.main_arg1) = m ((c.tc : Thread Cert.NormQuantHIdeal.nD Cert.NormQuantHIdeal.τ).loc Cert.NormQuantHIdeal.main_arg1)) →
    ∃ (v0 : (c : Dev Cert.NormQuantHIdeal.nD) → Buf (Elt Ideal) ((c.tc : Thread Cert.NormQuantHIdeal.nD Cert.NormQuantHIdeal.τ).loc Cert.NormQuantHIdeal.main_v1_0)) (v1 : (c : Dev Cert.NormQuantHIdeal.nD) → Buf (Elt Ideal) ((c.tc : Thread Cert.NormQuantHIdeal.nD Cert.NormQuantHIdeal.τ).loc Cert.NormQuantHIdeal.main_v1_1)),
      θ_run (Cert.NormQuantHIdeal.defs (F := Ideal)) (onTc (τ := Cert.NormQuantHIdeal.τ) (Cert.NormQuantHIdeal.main (F := Ideal))) ⟨m, fun _ => 0, g⟩ (fun r => ∀ c : Dev Cert.NormQuantHIdeal.nD,
          r.2.mem ((c.tc : Thread Cert.NormQuantHIdeal.nD Cert.NormQuantHIdeal.τ).loc Cert.NormQuantHIdeal.main_v1_0) = v0 c
          ∧ r.2.mem ((c.tc : Thread Cert.NormQuantHIdeal.nD Cert.NormQuantHIdeal.τ).loc Cert.NormQuantHIdeal.main_v1_1) = v1 c
          ∧ r.2.mem ((c.tc : Thread Cert.NormQuantHIdeal.nD Cert.NormQuantHIdeal.τ).loc Cert.NormQuantHIdeal.main_arg0) = m ((c.tc : Thread Cert.NormQuantHIdeal.nD Cert.NormQuantHIdeal.τ).loc Cert.NormQuantHIdeal.main_arg0)
          ∧ r.2.mem ((c.tc : Thread Cert.NormQuantHIdeal.nD Cert.NormQuantHIdeal.τ).loc Cert.NormQuantHIdeal.main_arg1) = m ((c.tc : Thread Cert.NormQuantHIdeal.nD Cert.NormQuantHIdeal.τ).loc Cert.NormQuantHIdeal.main_arg1))
      ∧ θ_run (Cert.NormQuantHRefIdeal.defs (F := Ideal)) (onTc (τ := Cert.NormQuantHRefIdeal.τ) (Cert.NormQuantHRefIdeal.main (F := Ideal))) ⟨m', fun _ => 0, g'⟩ (fun r => ∀ c : Dev Cert.NormQuantHRefIdeal.nD,
          r.2.mem ((c.tc : Thread Cert.NormQuantHRefIdeal.nD Cert.NormQuantHRefIdeal.τ).loc Cert.NormQuantHRefIdeal.main_v1_0) = v0 c
          ∧ r.2.mem ((c.tc : Thread Cert.NormQuantHRefIdeal.nD Cert.NormQuantHRefIdeal.τ).loc Cert.NormQuantHRefIdeal.main_v1_1) = v1 c
          ∧ r.2.mem ((c.tc : Thread Cert.NormQuantHRefIdeal.nD Cert.NormQuantHRefIdeal.τ).loc Cert.NormQuantHRefIdeal.main_arg0) = m' ((c.tc : Thread Cert.NormQuantHRefIdeal.nD Cert.NormQuantHRefIdeal.τ).loc Cert.NormQuantHRefIdeal.main_arg0)
          ∧ r.2.mem ((c.tc : Thread Cert.NormQuantHRefIdeal.nD Cert.NormQuantHRefIdeal.τ).loc Cert.NormQuantHRefIdeal.main_arg1) = m' ((c.tc : Thread Cert.NormQuantHRefIdeal.nD Cert.NormQuantHRefIdeal.τ).loc Cert.NormQuantHRefIdeal.main_arg1))

def Claim : Prop :=
  ∃ (hGateUp : Cert.GateUp.Facts) (hGateUpIdeal : Cert.GateUpIdeal.Facts) (hGateUpRefIdeal : Cert.GateUpRefIdeal.Facts) (hOutProj : Cert.OutProj.Facts) (hOutProjIdeal : Cert.OutProjIdeal.Facts) (hOutProjRefIdeal : Cert.OutProjRefIdeal.Facts) (hNormQuant : Cert.NormQuant.Facts) (hNormQuantIdeal : Cert.NormQuantIdeal.Facts) (hNormQuantRefIdeal : Cert.NormQuantRefIdeal.Facts) (hQuant : Cert.Quant.Facts) (hQuantIdeal : Cert.QuantIdeal.Facts) (hQuantRefIdeal : Cert.QuantRefIdeal.Facts) (hNormQuantH : Cert.NormQuantH.Facts) (hNormQuantHIdeal : Cert.NormQuantHIdeal.Facts) (hNormQuantHRefIdeal : Cert.NormQuantHRefIdeal.Facts) (hPre_valid_meta : Cert.Pre_valid_meta.Facts) (hPre_valid_meta_out : Cert.Pre_valid_meta_out.Facts),
    quiescent_GateUp (hGateUp := hGateUp)
    ∧ quiescent_GateUpIdeal (hGateUpIdeal := hGateUpIdeal)
    ∧ quiescent_GateUpIdeal_pre_valid_meta (hGateUpIdeal := hGateUpIdeal) (hPre_valid_meta := hPre_valid_meta)
    ∧ quiescent_GateUpRefIdeal (hGateUpRefIdeal := hGateUpRefIdeal)
    ∧ quiescent_GateUpRefIdeal_pre_valid_meta (hGateUpRefIdeal := hGateUpRefIdeal) (hPre_valid_meta := hPre_valid_meta)
    ∧ quiescent_OutProj (hOutProj := hOutProj)
    ∧ quiescent_OutProjIdeal (hOutProjIdeal := hOutProjIdeal)
    ∧ quiescent_OutProjIdeal_pre_valid_meta_out (hOutProjIdeal := hOutProjIdeal) (hPre_valid_meta_out := hPre_valid_meta_out)
    ∧ quiescent_OutProjRefIdeal (hOutProjRefIdeal := hOutProjRefIdeal)
    ∧ quiescent_OutProjRefIdeal_pre_valid_meta_out (hOutProjRefIdeal := hOutProjRefIdeal) (hPre_valid_meta_out := hPre_valid_meta_out)
    ∧ quiescent_NormQuant (hNormQuant := hNormQuant)
    ∧ quiescent_NormQuantIdeal (hNormQuantIdeal := hNormQuantIdeal)
    ∧ quiescent_NormQuantRefIdeal (hNormQuantRefIdeal := hNormQuantRefIdeal)
    ∧ quiescent_Quant (hQuant := hQuant)
    ∧ quiescent_QuantIdeal (hQuantIdeal := hQuantIdeal)
    ∧ quiescent_QuantRefIdeal (hQuantRefIdeal := hQuantRefIdeal)
    ∧ quiescent_NormQuantH (hNormQuantH := hNormQuantH)
    ∧ quiescent_NormQuantHIdeal (hNormQuantHIdeal := hNormQuantHIdeal)
    ∧ quiescent_NormQuantHRefIdeal (hNormQuantHRefIdeal := hNormQuantHRefIdeal)
    ∧ preserves_GateUp_GateUpIdeal
    ∧ algebraic_GateUpIdeal_GateUpRefIdeal_pre_valid_meta (hGateUpIdeal := hGateUpIdeal) (hGateUpRefIdeal := hGateUpRefIdeal) (hPre_valid_meta := hPre_valid_meta)
    ∧ preserves_OutProj_OutProjIdeal
    ∧ algebraic_OutProjIdeal_OutProjRefIdeal_pre_valid_meta_out (hOutProjIdeal := hOutProjIdeal) (hOutProjRefIdeal := hOutProjRefIdeal) (hPre_valid_meta_out := hPre_valid_meta_out)
    ∧ preserves_NormQuant_NormQuantIdeal
    ∧ algebraic_NormQuantIdeal_NormQuantRefIdeal (hNormQuantIdeal := hNormQuantIdeal) (hNormQuantRefIdeal := hNormQuantRefIdeal)
    ∧ preserves_Quant_QuantIdeal
    ∧ algebraic_QuantIdeal_QuantRefIdeal (hQuantIdeal := hQuantIdeal) (hQuantRefIdeal := hQuantRefIdeal)
    ∧ preserves_NormQuantH_NormQuantHIdeal
    ∧ algebraic_NormQuantHIdeal_NormQuantHRefIdeal (hNormQuantHIdeal := hNormQuantHIdeal) (hNormQuantHRefIdeal := hNormQuantHRefIdeal)
-- ==== Pre_valid_meta.lean ====
abbrev S1152x4096 : Shape := ⟨2, ![1152, 4096]⟩
abbrev S1152x1 : Shape := ⟨2, ![1152, 1]⟩
abbrev S28672x2048 : Shape := ⟨2, ![28672, 2048]⟩
abbrev S28672x256 : Shape := ⟨2, ![28672, 256]⟩
abbrev S28672 : Shape := ⟨1, ![28672]⟩
abbrev S_ : Shape := ⟨0, ![]⟩

class Facts : Prop where
  natLt_16_32 : 16 < 32
  bcast_S_S28672x256 : S_.BroadcastsInDim S28672x256 (![] : Fin 0 → Fin S28672x256.rank)

variable [Facts]

def fn_part2 {F : FTy → Type} [FloatOps F] (main_v29 : IVec S28672x256 1) (main_v33 : IVec S28672x256 32) : IVec S28672x256 1 :=
  let main_c_13 : IVec S_ 32 := constantI S_ 32 3#32
  let main_v34 : IVec S28672x256 32 := broadcastInDim S28672x256 ![] bcast_S_S28672x256 main_c_13
  let main_v35 : IVec S28672x256 32 := andi main_v33 main_v34
  let main_c_14 : IVec S_ 32 := constantI S_ 32 2#32
  let main_v36 : IVec S28672x256 32 := broadcastInDim S28672x256 ![] bcast_S_S28672x256 main_c_14
  let main_v37 : IVec S28672x256 32 := Host.shrsi main_v33 main_v36
  let main_v38 : IVec S28672x256 1 := cmpi .slt main_v35 main_v37
  let main_v39 : IVec S28672x256 1 := andi main_v29 main_v38
  main_v39

def fn_part1 {F : FTy → Type} [FloatOps F] (main_v0 : IVec S28672x256 32) (main_v9 : IVec S28672x256 1) (main_v13 : IVec S28672x256 32) (main_v15 : IVec S28672x256 32) (main_c_6 : IVec S_ 32) : IVec S28672x256 1 :=
  let main_v16 : IVec S28672x256 32 := broadcastInDim S28672x256 ![] bcast_S_S28672x256 main_c_6
  let main_v17 : IVec S28672x256 32 := Host.shrsi main_v13 main_v16
  let main_v18 : IVec S28672x256 1 := cmpi .slt main_v15 main_v17
  let main_v19 : IVec S28672x256 1 := andi main_v9 main_v18
  let main_c_7 : IVec S_ 32 := constantI S_ 32 8#32
  let main_v20 : IVec S28672x256 32 := broadcastInDim S28672x256 ![] bcast_S_S28672x256 main_c_7
  let main_v21 : IVec S28672x256 32 := Host.shrsi main_v0 main_v20
  let main_c_8 : IVec S_ 32 := constantI S_ 32 15#32
  let main_v22 : IVec S28672x256 32 := broadcastInDim S28672x256 ![] bcast_S_S28672x256 main_c_8
  let main_v23 : IVec S28672x256 32 := andi main_v21 main_v22
  let main_c_9 : IVec S_ 32 := constantI S_ 32 3#32
  let main_v24 : IVec S28672x256 32 := broadcastInDim S28672x256 ![] bcast_S_S28672x256 main_c_9
  let main_v25 : IVec S28672x256 32 := andi main_v23 main_v24
  let main_c_10 : IVec S_ 32 := constantI S_ 32 2#32
  let main_v26 : IVec S28672x256 32 := broadcastInDim S28672x256 ![] bcast_S_S28672x256 main_c_10
  let main_v27 : IVec S28672x256 32 := Host.shrsi main_v23 main_v26
  let main_v28 : IVec S28672x256 1 := cmpi .slt main_v25 main_v27
  let main_v29 : IVec S28672x256 1 := andi main_v19 main_v28
  let main_c_11 : IVec S_ 32 := constantI S_ 32 12#32
  let main_v30 : IVec S28672x256 32 := broadcastInDim S28672x256 ![] bcast_S_S28672x256 main_c_11
  let main_v31 : IVec S28672x256 32 := Host.shrsi main_v0 main_v30
  let main_c_12 : IVec S_ 32 := constantI S_ 32 15#32
  let main_v32 : IVec S28672x256 32 := broadcastInDim S28672x256 ![] bcast_S_S28672x256 main_c_12
  let main_v33 : IVec S28672x256 32 := andi main_v31 main_v32
  fn_part2 (F := F) main_v29 main_v33

def fn {F : FTy → Type} [FloatOps F] (main_arg0 : FVec F S1152x4096 .fp8e4m3) (main_arg1 : FVec F S1152x1 .f32) (main_arg2 : IVec S28672x2048 8) (main_arg3 : IVec S28672x256 16) (main_arg4 : FVec F S28672 .f32) : IVec S28672x256 1 :=
  let main_v0 : IVec S28672x256 32 := (extui 32 · natLt_16_32) main_arg3
  let main_c : IVec S_ 32 := constantI S_ 32 0#32
  let main_v1 : IVec S28672x256 32 := broadcastInDim S28672x256 ![] bcast_S_S28672x256 main_c
  let main_v2 : IVec S28672x256 32 := Host.shrsi main_v0 main_v1
  let main_c_0 : IVec S_ 32 := constantI S_ 32 15#32
  let main_v3 : IVec S28672x256 32 := broadcastInDim S28672x256 ![] bcast_S_S28672x256 main_c_0
  let main_v4 : IVec S28672x256 32 := andi main_v2 main_v3
  let main_c_1 : IVec S_ 32 := constantI S_ 32 3#32
  let main_v5 : IVec S28672x256 32 := broadcastInDim S28672x256 ![] bcast_S_S28672x256 main_c_1
  let main_v6 : IVec S28672x256 32 := andi main_v4 main_v5
  let main_c_2 : IVec S_ 32 := constantI S_ 32 2#32
  let main_v7 : IVec S28672x256 32 := broadcastInDim S28672x256 ![] bcast_S_S28672x256 main_c_2
  let main_v8 : IVec S28672x256 32 := Host.shrsi main_v4 main_v7
  let main_v9 : IVec S28672x256 1 := cmpi .slt main_v6 main_v8
  let main_c_3 : IVec S_ 32 := constantI S_ 32 4#32
  let main_v10 : IVec S28672x256 32 := broadcastInDim S28672x256 ![] bcast_S_S28672x256 main_c_3
  let main_v11 : IVec S28672x256 32 := Host.shrsi main_v0 main_v10
  let main_c_4 : IVec S_ 32 := constantI S_ 32 15#32
  let main_v12 : IVec S28672x256 32 := broadcastInDim S28672x256 ![] bcast_S_S28672x256 main_c_4
  let main_v13 : IVec S28672x256 32 := andi main_v11 main_v12
  let main_c_5 : IVec S_ 32 := constantI S_ 32 3#32
  let main_v14 : IVec S28672x256 32 := broadcastInDim S28672x256 ![] bcast_S_S28672x256 main_c_5
  let main_v15 : IVec S28672x256 32 := andi main_v13 main_v14
  let main_c_6 : IVec S_ 32 := constantI S_ 32 2#32
  fn_part1 (F := F) main_v0 main_v9 main_v13 main_v15 main_c_6
-- ==== Pre_valid_meta_out.lean ====
abbrev S1152x4096 : Shape := ⟨2, ![1152, 4096]⟩
abbrev S1152x1 : Shape := ⟨2, ![1152, 1]⟩
abbrev S4096x2048 : Shape := ⟨2, ![4096, 2048]⟩
abbrev S4096x256 : Shape := ⟨2, ![4096, 256]⟩
abbrev S4096 : Shape := ⟨1, ![4096]⟩
abbrev S_ : Shape := ⟨0, ![]⟩

class Facts : Prop where
  natLt_16_32 : 16 < 32
  bcast_S_S4096x256 : S_.BroadcastsInDim S4096x256 (![] : Fin 0 → Fin S4096x256.rank)

variable [Facts]

def fn_part2 {F : FTy → Type} [FloatOps F] (main_v29 : IVec S4096x256 1) (main_v33 : IVec S4096x256 32) : IVec S4096x256 1 :=
  let main_c_13 : IVec S_ 32 := constantI S_ 32 3#32
  let main_v34 : IVec S4096x256 32 := broadcastInDim S4096x256 ![] bcast_S_S4096x256 main_c_13
  let main_v35 : IVec S4096x256 32 := andi main_v33 main_v34
  let main_c_14 : IVec S_ 32 := constantI S_ 32 2#32
  let main_v36 : IVec S4096x256 32 := broadcastInDim S4096x256 ![] bcast_S_S4096x256 main_c_14
  let main_v37 : IVec S4096x256 32 := Host.shrsi main_v33 main_v36
  let main_v38 : IVec S4096x256 1 := cmpi .slt main_v35 main_v37
  let main_v39 : IVec S4096x256 1 := andi main_v29 main_v38
  main_v39

def fn_part1 {F : FTy → Type} [FloatOps F] (main_v0 : IVec S4096x256 32) (main_v9 : IVec S4096x256 1) (main_v13 : IVec S4096x256 32) (main_v15 : IVec S4096x256 32) (main_c_6 : IVec S_ 32) : IVec S4096x256 1 :=
  let main_v16 : IVec S4096x256 32 := broadcastInDim S4096x256 ![] bcast_S_S4096x256 main_c_6
  let main_v17 : IVec S4096x256 32 := Host.shrsi main_v13 main_v16
  let main_v18 : IVec S4096x256 1 := cmpi .slt main_v15 main_v17
  let main_v19 : IVec S4096x256 1 := andi main_v9 main_v18
  let main_c_7 : IVec S_ 32 := constantI S_ 32 8#32
  let main_v20 : IVec S4096x256 32 := broadcastInDim S4096x256 ![] bcast_S_S4096x256 main_c_7
  let main_v21 : IVec S4096x256 32 := Host.shrsi main_v0 main_v20
  let main_c_8 : IVec S_ 32 := constantI S_ 32 15#32
  let main_v22 : IVec S4096x256 32 := broadcastInDim S4096x256 ![] bcast_S_S4096x256 main_c_8
  let main_v23 : IVec S4096x256 32 := andi main_v21 main_v22
  let main_c_9 : IVec S_ 32 := constantI S_ 32 3#32
  let main_v24 : IVec S4096x256 32 := broadcastInDim S4096x256 ![] bcast_S_S4096x256 main_c_9
  let main_v25 : IVec S4096x256 32 := andi main_v23 main_v24
  let main_c_10 : IVec S_ 32 := constantI S_ 32 2#32
  let main_v26 : IVec S4096x256 32 := broadcastInDim S4096x256 ![] bcast_S_S4096x256 main_c_10
  let main_v27 : IVec S4096x256 32 := Host.shrsi main_v23 main_v26
  let main_v28 : IVec S4096x256 1 := cmpi .slt main_v25 main_v27
  let main_v29 : IVec S4096x256 1 := andi main_v19 main_v28
  let main_c_11 : IVec S_ 32 := constantI S_ 32 12#32
  let main_v30 : IVec S4096x256 32 := broadcastInDim S4096x256 ![] bcast_S_S4096x256 main_c_11
  let main_v31 : IVec S4096x256 32 := Host.shrsi main_v0 main_v30
  let main_c_12 : IVec S_ 32 := constantI S_ 32 15#32
  let main_v32 : IVec S4096x256 32 := broadcastInDim S4096x256 ![] bcast_S_S4096x256 main_c_12
  let main_v33 : IVec S4096x256 32 := andi main_v31 main_v32
  fn_part2 (F := F) main_v29 main_v33

def fn {F : FTy → Type} [FloatOps F] (main_arg0 : FVec F S1152x4096 .fp8e4m3) (main_arg1 : FVec F S1152x1 .f32) (main_arg2 : IVec S4096x2048 8) (main_arg3 : IVec S4096x256 16) (main_arg4 : FVec F S4096 .f32) (main_arg5 : FVec F S1152x4096 .bf16) : IVec S4096x256 1 :=
  let main_v0 : IVec S4096x256 32 := (extui 32 · natLt_16_32) main_arg3
  let main_c : IVec S_ 32 := constantI S_ 32 0#32
  let main_v1 : IVec S4096x256 32 := broadcastInDim S4096x256 ![] bcast_S_S4096x256 main_c
  let main_v2 : IVec S4096x256 32 := Host.shrsi main_v0 main_v1
  let main_c_0 : IVec S_ 32 := constantI S_ 32 15#32
  let main_v3 : IVec S4096x256 32 := broadcastInDim S4096x256 ![] bcast_S_S4096x256 main_c_0
  let main_v4 : IVec S4096x256 32 := andi main_v2 main_v3
  let main_c_1 : IVec S_ 32 := constantI S_ 32 3#32
  let main_v5 : IVec S4096x256 32 := broadcastInDim S4096x256 ![] bcast_S_S4096x256 main_c_1
  let main_v6 : IVec S4096x256 32 := andi main_v4 main_v5
  let main_c_2 : IVec S_ 32 := constantI S_ 32 2#32
  let main_v7 : IVec S4096x256 32 := broadcastInDim S4096x256 ![] bcast_S_S4096x256 main_c_2
  let main_v8 : IVec S4096x256 32 := Host.shrsi main_v4 main_v7
  let main_v9 : IVec S4096x256 1 := cmpi .slt main_v6 main_v8
  let main_c_3 : IVec S_ 32 := constantI S_ 32 4#32
  let main_v10 : IVec S4096x256 32 := broadcastInDim S4096x256 ![] bcast_S_S4096x256 main_c_3
  let main_v11 : IVec S4096x256 32 := Host.shrsi main_v0 main_v10
  let main_c_4 : IVec S_ 32 := constantI S_ 32 15#32
  let main_v12 : IVec S4096x256 32 := broadcastInDim S4096x256 ![] bcast_S_S4096x256 main_c_4
  let main_v13 : IVec S4096x256 32 := andi main_v11 main_v12
  let main_c_5 : IVec S_ 32 := constantI S_ 32 3#32
  let main_v14 : IVec S4096x256 32 := broadcastInDim S4096x256 ![] bcast_S_S4096x256 main_c_5
  let main_v15 : IVec S4096x256 32 := andi main_v13 main_v14
  let main_c_6 : IVec S_ 32 := constantI S_ 32 2#32
  fn_part1 (F := F) main_v0 main_v9 main_v13 main_v15 main_c_6
-- ==== GateUp.lean ====
abbrev S1152x4096 : Shape := ⟨2, ![1152, 4096]⟩
abbrev S1152x1 : Shape := ⟨2, ![1152, 1]⟩
abbrev S28672x2048 : Shape := ⟨2, ![28672, 2048]⟩
abbrev S28672x256 : Shape := ⟨2, ![28672, 256]⟩
abbrev S28672 : Shape := ⟨1, ![28672]⟩
abbrev S1152x4x256x4 : Shape := ⟨4, ![1152, 4, 256, 4]⟩
abbrev S1152x4x4x256 : Shape := ⟨4, ![1152, 4, 4, 256]⟩
abbrev S1152x128 : Shape := ⟨2, ![1152, 128]⟩
abbrev S1x28672 : Shape := ⟨2, ![1, 28672]⟩
abbrev S1152x14336 : Shape := ⟨2, ![1152, 14336]⟩
abbrev S256x2048 : Shape := ⟨2, ![256, 2048]⟩
abbrev S256x256 : Shape := ⟨2, ![256, 256]⟩
abbrev S1x256 : Shape := ⟨2, ![1, 256]⟩
abbrev S1152x256 : Shape := ⟨2, ![1152, 256]⟩
abbrev S256x4096 : Shape := ⟨2, ![256, 4096]⟩
abbrev S64x128 : Shape := ⟨2, ![64, 128]⟩
abbrev S256x128 : Shape := ⟨2, ![256, 128]⟩
abbrev S64x128x1 : Shape := ⟨3, ![64, 128, 1]⟩
abbrev S1x128 : Shape := ⟨2, ![1, 128]⟩
abbrev S1152 : Shape := ⟨1, ![1152]⟩

abbrev nBuf : Space → Nat
  | .hbm => 12
  | .vmem => 19
  | .smem => 0
  | _ => 0

abbrev bufTy : (tb : Table) → Fin (tcTables nBuf tb) → BufTy
  | .hbm, ⟨0, _⟩ => ⟨S1152x4096, .fp8e4m3⟩
  | .hbm, ⟨1, _⟩ => ⟨S1152x1, .f32⟩
  | .hbm, ⟨2, _⟩ => ⟨S28672x2048, .i8⟩
  | .hbm, ⟨3, _⟩ => ⟨S28672x256, .i16⟩
  | .hbm, ⟨4, _⟩ => ⟨S28672, .f32⟩
  | .hbm, ⟨5, _⟩ => ⟨S1152x4x256x4, .fp8e4m3⟩
  | .hbm, ⟨6, _⟩ => ⟨S1152x4x4x256, .fp8e4m3⟩
  | .hbm, ⟨7, _⟩ => ⟨S1152x4096, .fp8e4m3⟩
  | .hbm, ⟨8, _⟩ => ⟨S1152x128, .f32⟩
  | .hbm, ⟨9, _⟩ => ⟨S1x28672, .f32⟩
  | .hbm, ⟨10, _⟩ => ⟨S1152x14336, .f32⟩
  | .hbm, ⟨11, _⟩ => ⟨S1152x128, .f32⟩
  | .local _ .vmem, ⟨0, _⟩ => ⟨S1152x4096, .fp8e4m3⟩
  | .local _ .vmem, ⟨1, _⟩ => ⟨S1152x128, .f32⟩
  | .local _ .vmem, ⟨2, _⟩ => ⟨S256x2048, .i8⟩
  | .local _ .vmem, ⟨3, _⟩ => ⟨S256x2048, .i8⟩
  | .local _ .vmem, ⟨4, _⟩ => ⟨S256x256, .i16⟩
  | .local _ .vmem, ⟨5, _⟩ => ⟨S256x256, .i16⟩
  | .local _ .vmem, ⟨6, _⟩ => ⟨S1x256, .f32⟩
  | .local _ .vmem, ⟨7, _⟩ => ⟨S1x256, .f32⟩
  | .local _ .vmem, ⟨8, _⟩ => ⟨S256x2048, .i8⟩
  | .local _ .vmem, ⟨9, _⟩ => ⟨S256x2048, .i8⟩
  | .local _ .vmem, ⟨10, _⟩ => ⟨S256x256, .i16⟩
  | .local _ .vmem, ⟨11, _⟩ => ⟨S256x256, .i16⟩
  | .local _ .vmem, ⟨12, _⟩ => ⟨S1x256, .f32⟩
  | .local _ .vmem, ⟨13, _⟩ => ⟨S1x256, .f32⟩
  | .local _ .vmem, ⟨14, _⟩ => ⟨S1152x256, .f32⟩
  | .local _ .vmem, ⟨15, _⟩ => ⟨S1152x256, .f32⟩
  | .local _ .vmem, ⟨16, _⟩ => ⟨S1152x128, .f32⟩
  | .local _ .vmem, ⟨17, _⟩ => ⟨S256x4096, .fp8e4m3⟩
  | .local _ .vmem, ⟨18, _⟩ => ⟨S256x4096, .fp8e4m3⟩
  | _, _ => ⟨S1152x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c56_i32 : BitVec 32 := 56#32
  let v0 : BitVec 32 := Scalar.addi c56_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1152x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .i16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1152x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1152x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateUpRefIdeal.lean ====
abbrev S1152x4096 : Shape := ⟨2, ![1152, 4096]⟩
abbrev S1152x1 : Shape := ⟨2, ![1152, 1]⟩
abbrev S28672x2048 : Shape := ⟨2, ![28672, 2048]⟩
abbrev S28672x256 : Shape := ⟨2, ![28672, 256]⟩
abbrev S28672 : Shape := ⟨1, ![28672]⟩
abbrev S1152x1024 : Shape := ⟨2, ![1152, 1024]⟩
abbrev S28672x1024 : Shape := ⟨2, ![28672, 1024]⟩
abbrev S28672x256x1 : Shape := ⟨3, ![28672, 256, 1]⟩
abbrev S4 : Shape := ⟨1, ![4]⟩
abbrev S_ : Shape := ⟨0, ![]⟩
abbrev S1x1x4 : Shape := ⟨3, ![1, 1, 4]⟩
abbrev S28672x256x4 : Shape := ⟨3, ![28672, 256, 4]⟩
abbrev S1x28672 : Shape := ⟨2, ![1, 28672]⟩
abbrev S1152x14336 : Shape := ⟨2, ![1152, 14336]⟩
abbrev S1152x128 : Shape := ⟨2, ![1152, 128]⟩
abbrev S1152x28672 : Shape := ⟨2, ![1152, 28672]⟩
abbrev S1152 : Shape := ⟨1, ![1152]⟩

abbrev nBuf : Space → Nat
  | .hbm => 28
  | .vmem => 11
  | .smem => 0
  | _ => 0

abbrev bufTy : (tb : Table) → Fin (tcTables nBuf tb) → BufTy
  | .hbm, ⟨0, _⟩ => ⟨S1152x4096, .fp8e4m3⟩
  | .hbm, ⟨1, _⟩ => ⟨S1152x1, .f32⟩
  | .hbm, ⟨2, _⟩ => ⟨S28672x2048, .i8⟩
  | .hbm, ⟨3, _⟩ => ⟨S28672x256, .i16⟩
  | .hbm, ⟨4, _⟩ => ⟨S28672, .f32⟩
  | .hbm, ⟨5, _⟩ => ⟨S1152x1024, .fp8e4m3⟩
  | .hbm, ⟨6, _⟩ => ⟨S1152x1024, .fp8e4m3⟩
  | .hbm, ⟨7, _⟩ => ⟨S1152x1024, .fp8e4m3⟩
  | .hbm, ⟨8, _⟩ => ⟨S1152x1024, .fp8e4m3⟩
  | .hbm, ⟨9, _⟩ => ⟨S28672x1024, .i8⟩
  | .hbm, ⟨10, _⟩ => ⟨S28672x1024, .i8⟩
  | .hbm, ⟨11, _⟩ => ⟨S28672x256, .i32⟩
  | .hbm, ⟨12, _⟩ => ⟨S28672x256x1, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i32⟩
  | .hbm, ⟨17, _⟩ => ⟨S1x1x4, .i32⟩
  | .hbm, ⟨18, _⟩ => ⟨S28672x256x4, .i32⟩
  | .hbm, ⟨19, _⟩ => ⟨S28672x256x4, .i32⟩
  | .hbm, ⟨20, _⟩ => ⟨S28672x256x4, .i32⟩
  | .hbm, ⟨21, _⟩ => ⟨S_, .i32⟩
  | .hbm, ⟨22, _⟩ => ⟨S28672x256x4, .i32⟩
  | .hbm, ⟨23, _⟩ => ⟨S28672x256x4, .i32⟩
  | .hbm, ⟨24, _⟩ => ⟨S28672x1024, .i32⟩
  | .hbm, ⟨25, _⟩ => ⟨S1x28672, .f32⟩
  | .hbm, ⟨26, _⟩ => ⟨S1152x14336, .f32⟩
  | .hbm, ⟨27, _⟩ => ⟨S1152x128, .f32⟩
  | .local _ .vmem, ⟨0, _⟩ => ⟨S1152x1024, .fp8e4m3⟩
  | .local _ .vmem, ⟨1, _⟩ => ⟨S1152x1024, .fp8e4m3⟩
  | .local _ .vmem, ⟨2, _⟩ => ⟨S1152x1024, .fp8e4m3⟩
  | .local _ .vmem, ⟨3, _⟩ => ⟨S1152x1024, .fp8e4m3⟩
  | .local _ .vmem, ⟨4, _⟩ => ⟨S1152x1, .f32⟩
  | .local _ .vmem, ⟨5, _⟩ => ⟨S28672x1024, .i8⟩
  | .local _ .vmem, ⟨6, _⟩ => ⟨S28672x1024, .i8⟩
  | .local _ .vmem, ⟨7, _⟩ => ⟨S28672x1024, .i32⟩
  | .local _ .vmem, ⟨8, _⟩ => ⟨S1x28672, .f32⟩
  | .local _ .vmem, ⟨9, _⟩ => ⟨S1152x14336, .f32⟩
  | .local _ .vmem, ⟨10, _⟩ => ⟨S1152x128, .f32⟩
  | _, _ => ⟨S1152x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1152x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28672x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S28672x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S28672x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x28672 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x14336 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1152x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== OutProj.lean ====
abbrev S1152x4096 : Shape := ⟨2, ![1152, 4096]⟩
abbrev S1152x1 : Shape := ⟨2, ![1152, 1]⟩
abbrev S4096x2048 : Shape := ⟨2, ![4096, 2048]⟩
abbrev S4096x256 : Shape := ⟨2, ![4096, 256]⟩
abbrev S4096 : Shape := ⟨1, ![4096]⟩
abbrev S1152x4x256x4 : Shape := ⟨4, ![1152, 4, 256, 4]⟩
abbrev S1152x4x4x256 : Shape := ⟨4, ![1152, 4, 4, 256]⟩
abbrev S1152x128 : Shape := ⟨2, ![1152, 128]⟩
abbrev S1x4096 : Shape := ⟨2, ![1, 4096]⟩
abbrev S256x2048 : Shape := ⟨2, ![256, 2048]⟩
abbrev S256x256 : Shape := ⟨2, ![256, 256]⟩
abbrev S1x256 : Shape := ⟨2, ![1, 256]⟩
abbrev S1152x256 : Shape := ⟨2, ![1152, 256]⟩
abbrev S256x4096 : Shape := ⟨2, ![256, 4096]⟩
abbrev S64x128 : Shape := ⟨2, ![64, 128]⟩
abbrev S256x128 : Shape := ⟨2, ![256, 128]⟩
abbrev S64x128x1 : Shape := ⟨3, ![64, 128, 1]⟩
abbrev S1x128 : Shape := ⟨2, ![1, 128]⟩

abbrev nBuf : Space → Nat
  | .hbm => 12
  | .vmem => 13
  | .smem => 0
  | _ => 0

abbrev bufTy : (tb : Table) → Fin (tcTables nBuf tb) → BufTy
  | .hbm, ⟨0, _⟩ => ⟨S1152x4096, .fp8e4m3⟩
  | .hbm, ⟨1, _⟩ => ⟨S1152x1, .f32⟩
  | .hbm, ⟨2, _⟩ => ⟨S4096x2048, .i8⟩
  | .hbm, ⟨3, _⟩ => ⟨S4096x256, .i16⟩
  | .hbm, ⟨4, _⟩ => ⟨S4096, .f32⟩
  | .hbm, ⟨5, _⟩ => ⟨S1152x4096, .bf16⟩
  | .hbm, ⟨6, _⟩ => ⟨S1152x4x256x4, .fp8e4m3⟩
  | .hbm, ⟨7, _⟩ => ⟨S1152x4x4x256, .fp8e4m3⟩
  | .hbm, ⟨8, _⟩ => ⟨S1152x4096, .fp8e4m3⟩
  | .hbm, ⟨9, _⟩ => ⟨S1152x128, .f32⟩
  | .hbm, ⟨10, _⟩ => ⟨S1x4096, .f32⟩
  | .hbm, ⟨11, _⟩ => ⟨S1152x4096, .f32⟩
  | .local _ .vmem, ⟨0, _⟩ => ⟨S1152x4096, .fp8e4m3⟩
  | .local _ .vmem, ⟨1, _⟩ => ⟨S1152x128, .f32⟩
  | .local _ .vmem, ⟨2, _⟩ => ⟨S256x2048, .i8⟩
  | .local _ .vmem, ⟨3, _⟩ => ⟨S256x2048, .i8⟩
  | .local _ .vmem, ⟨4, _⟩ => ⟨S256x256, .i16⟩
  | .local _ .vmem, ⟨5, _⟩ => ⟨S256x256, .i16⟩
  | .local _ .vmem, ⟨6, _⟩ => ⟨S1x256, .f32⟩
  | .local _ .vmem, ⟨7, _⟩ => ⟨S1x256, .f32⟩
  | .local _ .vmem, ⟨8, _⟩ => ⟨S1152x256, .bf16⟩
  | .local _ .vmem, ⟨9, _⟩ => ⟨S1152x256, .bf16⟩
  | .local _ .vmem, ⟨10, _⟩ => ⟨S1152x256, .f32⟩
  | .local _ .vmem, ⟨11, _⟩ => ⟨S1152x256, .f32⟩
  | .local _ .vmem, ⟨12, _⟩ => ⟨S256x4096, .fp8e4m3⟩
  | _, _ => ⟨S1152x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1152x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .i16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1152x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1152x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S1152x4096 : Shape := ⟨2, ![1152, 4096]⟩
abbrev S1152x1 : Shape := ⟨2, ![1152, 1]⟩
abbrev S4096x2048 : Shape := ⟨2, ![4096, 2048]⟩
abbrev S4096x256 : Shape := ⟨2, ![4096, 256]⟩
abbrev S4096 : Shape := ⟨1, ![4096]⟩
abbrev S1152x1024 : Shape := ⟨2, ![1152, 1024]⟩
abbrev S4096x1024 : Shape := ⟨2, ![4096, 1024]⟩
abbrev S4096x256x1 : Shape := ⟨3, ![4096, 256, 1]⟩
abbrev S4 : Shape := ⟨1, ![4]⟩
abbrev S_ : Shape := ⟨0, ![]⟩
abbrev S1x1x4 : Shape := ⟨3, ![1, 1, 4]⟩
abbrev S4096x256x4 : Shape := ⟨3, ![4096, 256, 4]⟩
abbrev S1x4096 : Shape := ⟨2, ![1, 4096]⟩

abbrev nBuf : Space → Nat
  | .hbm => 28
  | .vmem => 11
  | .smem => 0
  | _ => 0

abbrev bufTy : (tb : Table) → Fin (tcTables nBuf tb) → BufTy
  | .hbm, ⟨0, _⟩ => ⟨S1152x4096, .fp8e4m3⟩
  | .hbm, ⟨1, _⟩ => ⟨S1152x1, .f32⟩
  | .hbm, ⟨2, _⟩ => ⟨S4096x2048, .i8⟩
  | .hbm, ⟨3, _⟩ => ⟨S4096x256, .i16⟩
  | .hbm, ⟨4, _⟩ => ⟨S4096, .f32⟩
  | .hbm, ⟨5, _⟩ => ⟨S1152x4096, .bf16⟩
  | .hbm, ⟨6, _⟩ => ⟨S1152x1024, .fp8e4m3⟩
  | .hbm, ⟨7, _⟩ => ⟨S1152x1024, .fp8e4m3⟩
  | .hbm, ⟨8, _⟩ => ⟨S1152x1024, .fp8e4m3⟩
  | .hbm, ⟨9, _⟩ => ⟨S1152x1024, .fp8e4m3⟩
  | .hbm, ⟨10, _⟩ => ⟨S4096x1024, .i8⟩
  | .hbm, ⟨11, _⟩ => ⟨S4096x1024, .i8⟩
  | .hbm, ⟨12, _⟩ => ⟨S4096x256, .i32⟩
  | .hbm, ⟨13, _⟩ => ⟨S4096x256x1, .i32⟩
  | .hbm, ⟨14, _⟩ => ⟨S4, .i32⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S1x1x4, .i32⟩
  | .hbm, ⟨19, _⟩ => ⟨S4096x256x4, .i32⟩
  | .hbm, ⟨20, _⟩ => ⟨S4096x256x4, .i32⟩
  | .hbm, ⟨21, _⟩ => ⟨S4096x256x4, .i32⟩
  | .hbm, ⟨22, _⟩ => ⟨S_, .i32⟩
  | .hbm, ⟨23, _⟩ => ⟨S4096x256x4, .i32⟩
  | .hbm, ⟨24, _⟩ => ⟨S4096x256x4, .i32⟩
  | .hbm, ⟨25, _⟩ => ⟨S4096x1024, .i32⟩
  | .hbm, ⟨26, _⟩ => ⟨S1x4096, .f32⟩
  | .hbm, ⟨27, _⟩ => ⟨S1152x4096, .f32⟩
  | .local _ .vmem, ⟨0, _⟩ => ⟨S1152x1024, .fp8e4m3⟩
  | .local _ .vmem, ⟨1, _⟩ => ⟨S1152x1024, .fp8e4m3⟩
  | .local _ .vmem, ⟨2, _⟩ => ⟨S1152x1024, .fp8e4m3⟩
  | .local _ .vmem, ⟨3, _⟩ => ⟨S1152x1024, .fp8e4m3⟩
  | .local _ .vmem, ⟨4, _⟩ => ⟨S1152x1, .f32⟩
  | .local _ .vmem, ⟨5, _⟩ => ⟨S4096x1024, .i8⟩
  | .local _ .vmem, ⟨6, _⟩ => ⟨S4096x1024, .i8⟩
  | .local _ .vmem, ⟨7, _⟩ => ⟨S4096x1024, .i32⟩
  | .local _ .vmem, ⟨8, _⟩ => ⟨S1x4096, .f32⟩
  | .local _ .vmem, ⟨9, _⟩ => ⟨S1152x4096, .bf16⟩
  | .local _ .vmem, ⟨10, _⟩ => ⟨S1152x4096, .f32⟩
  | _, _ => ⟨S1152x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S1152x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1152x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1024 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x1024 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1152x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1152x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== NormQuant.lean ====
abbrev S1152x4096 : Shape := ⟨2, ![1152, 4096]⟩
abbrev S4096 : Shape := ⟨1, ![4096]⟩
abbrev S1x4096 : Shape := ⟨2, ![1, 4096]⟩
abbrev S1152x128 : Shape := ⟨2, ![1152, 128]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S128x1024 : Shape := ⟨2, ![128, 1024]⟩
abbrev S128x128x1 : Shape := ⟨3, ![128, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S1152x4096, .bf16⟩
  | .hbm, ⟨1, _⟩ => ⟨S4096, .f32⟩
  | .hbm, ⟨2, _⟩ => ⟨S1x4096, .f32⟩
  | .hbm, ⟨3, _⟩ => ⟨S1152x4096, .fp8e4m3⟩
  | .hbm, ⟨4, _⟩ => ⟨S1152x128, .f32⟩
  | .hbm, ⟨5, _⟩ => ⟨S1152x4096, .fp8e4m3⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x4096, .fp8e4m3⟩
  | .local _ .vmem, ⟨4, _⟩ => ⟨S128x4096, .fp8e4m3⟩
  | .local _ .vmem, ⟨5, _⟩ => ⟨S128x128, .f32⟩
  | .local _ .vmem, ⟨6, _⟩ => ⟨S128x128, .f32⟩
  | .local _ .vmem, ⟨7, _⟩ => ⟨S128x4096, .fp8e4m3⟩
  | .local _ .vmem, ⟨8, _⟩ => ⟨S128x4096, .fp8e4m3⟩
  | _, _ => ⟨S1152x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormQuantIdeal.lean ====
abbrev S1152x4096 : Shape := ⟨2, ![1152, 4096]⟩
abbrev S4096 : Shape := ⟨1, ![4096]⟩
abbrev S1x4096 : Shape := ⟨2, ![1, 4096]⟩
abbrev S1152x128 : Shape := ⟨2, ![1152, 128]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S128x1024 : Shape := ⟨2, ![128, 1024]⟩
abbrev S128x128x1 : Shape := ⟨3, ![128, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S1152x4096, .bf16⟩
  | .hbm, ⟨1, _⟩ => ⟨S4096, .f32⟩
  | .hbm, ⟨2, _⟩ => ⟨S1x4096, .f32⟩
  | .hbm, ⟨3, _⟩ => ⟨S1152x4096, .fp8e4m3⟩
  | .hbm, ⟨4, _⟩ => ⟨S1152x128, .f32⟩
  | .hbm, ⟨5, _⟩ => ⟨S1152x4096, .fp8e4m3⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S128x4096, .fp8e4m3⟩
  | .local _ .vmem, ⟨4, _⟩ => ⟨S128x4096, .fp8e4m3⟩
  | .local _ .vmem, ⟨5, _⟩ => ⟨S128x128, .f32⟩
  | .local _ .vmem, ⟨6, _⟩ => ⟨S128x128, .f32⟩
  | .local _ .vmem, ⟨7, _⟩ => ⟨S128x4096, .fp8e4m3⟩
  | .local _ .vmem, ⟨8, _⟩ => ⟨S128x4096, .fp8e4m3⟩
  | _, _ => ⟨S1152x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormQuantRefIdeal.lean ====
abbrev S1152x4096 : Shape := ⟨2, ![1152, 4096]⟩
abbrev S4096 : Shape := ⟨1, ![4096]⟩
abbrev S1x4096 : Shape := ⟨2, ![1, 4096]⟩
abbrev S1152x128 : Shape := ⟨2, ![1152, 128]⟩
abbrev S1152 : Shape := ⟨1, ![1152]⟩
abbrev S1152x1 : Shape := ⟨2, ![1152, 1]⟩

abbrev nBuf : Space → Nat
  | .hbm => 5
  | .vmem => 4
  | .smem => 0
  | _ => 0

abbrev bufTy : (tb : Table) → Fin (tcTables nBuf tb) → BufTy
  | .hbm, ⟨0, _⟩ => ⟨S1152x4096, .bf16⟩
  | .hbm, ⟨1, _⟩ => ⟨S4096, .f32⟩
  | .hbm, ⟨2, _⟩ => ⟨S1x4096, .f32⟩
  | .hbm, ⟨3, _⟩ => ⟨S1152x4096, .fp8e4m3⟩
  | .hbm, ⟨4, _⟩ => ⟨S1152x128, .f32⟩
  | .local _ .vmem, ⟨0, _⟩ => ⟨S1152x4096, .bf16⟩
  | .local _ .vmem, ⟨1, _⟩ => ⟨S1x4096, .f32⟩
  | .local _ .vmem, ⟨2, _⟩ => ⟨S1152x4096, .fp8e4m3⟩
  | .local _ .vmem, ⟨3, _⟩ => ⟨S1152x128, .f32⟩
  | _, _ => ⟨S1152x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1152x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Quant.lean ====
abbrev S1152x4096 : Shape := ⟨2, ![1152, 4096]⟩
abbrev S1152x128 : Shape := ⟨2, ![1152, 128]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S128x1024 : Shape := ⟨2, ![128, 1024]⟩
abbrev S128x128x1 : Shape := ⟨3, ![128, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S1152x4096, .f32⟩
  | .hbm, ⟨1, _⟩ => ⟨S1152x4096, .fp8e4m3⟩
  | .hbm, ⟨2, _⟩ => ⟨S1152x128, .f32⟩
  | .hbm, ⟨3, _⟩ => ⟨S1152x4096, .fp8e4m3⟩
  | .local _ .vmem, ⟨0, _⟩ => ⟨S128x4096, .f32⟩
  | .local _ .vmem, ⟨1, _⟩ => ⟨S128x4096, .f32⟩
  | .local _ .vmem, ⟨2, _⟩ => ⟨S128x4096, .fp8e4m3⟩
  | .local _ .vmem, ⟨3, _⟩ => ⟨S128x4096, .fp8e4m3⟩
  | .local _ .vmem, ⟨4, _⟩ => ⟨S128x128, .f32⟩
  | .local _ .vmem, ⟨5, _⟩ => ⟨S128x128, .f32⟩
  | .local _ .vmem, ⟨6, _⟩ => ⟨S128x4096, .fp8e4m3⟩
  | .local _ .vmem, ⟨7, _⟩ => ⟨S128x4096, .fp8e4m3⟩
  | _, _ => ⟨S1152x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantRefIdeal.lean ====
abbrev S1152x4096 : Shape := ⟨2, ![1152, 4096]⟩
abbrev S1152x128 : Shape := ⟨2, ![1152, 128]⟩
abbrev S1152 : Shape := ⟨1, ![1152]⟩
abbrev S1152x1 : Shape := ⟨2, ![1152, 1]⟩

abbrev nBuf : Space → Nat
  | .hbm => 3
  | .vmem => 3
  | .smem => 0
  | _ => 0

abbrev bufTy : (tb : Table) → Fin (tcTables nBuf tb) → BufTy
  | .hbm, ⟨0, _⟩ => ⟨S1152x4096, .f32⟩
  | .hbm, ⟨1, _⟩ => ⟨S1152x4096, .fp8e4m3⟩
  | .hbm, ⟨2, _⟩ => ⟨S1152x128, .f32⟩
  | .local _ .vmem, ⟨0, _⟩ => ⟨S1152x4096, .f32⟩
  | .local _ .vmem, ⟨1, _⟩ => ⟨S1152x4096, .fp8e4m3⟩
  | .local _ .vmem, ⟨2, _⟩ => ⟨S1152x128, .f32⟩
  | _, _ => ⟨S1152x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1152x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== NormQuantH.lean ====
abbrev S1152x4096 : Shape := ⟨2, ![1152, 4096]⟩
abbrev S4096 : Shape := ⟨1, ![4096]⟩
abbrev S1x4096 : Shape := ⟨2, ![1, 4096]⟩
abbrev S1152x128 : Shape := ⟨2, ![1152, 128]⟩
abbrev S128x4096 : Shape := ⟨2, ![128, 4096]⟩
abbrev S128x128 : Shape := ⟨2, ![128, 128]⟩
abbrev S128 : Shape := ⟨1, ![128]⟩
abbrev S128x1 : Shape := ⟨2, ![128, 1]⟩
abbrev S128x1024 : Shape := ⟨2, ![128, 1024]⟩
abbrev S128x128x1 : Shape := ⟨3, ![128, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S1152x4096, .f32⟩
  | .hbm, ⟨1, _⟩ => ⟨S4096, .f32⟩
  | .hbm, ⟨2, _⟩ => ⟨S1x4096, .f32⟩
  | .hbm, ⟨3, _⟩ => ⟨S1152x4096, .fp8e4m3⟩
  | .hbm, ⟨4, _⟩ => ⟨S1152x128, .f32⟩
  | .hbm, ⟨5, _⟩ => ⟨S1152x4096, .fp8e4m3⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .fp8e4m3⟩
  | .local _ .vmem, ⟨4, _⟩ => ⟨S128x4096, .fp8e4m3⟩
  | .local _ .vmem, ⟨5, _⟩ => ⟨S128x128, .f32⟩
  | .local _ .vmem, ⟨6, _⟩ => ⟨S128x128, .f32⟩
  | .local _ .vmem, ⟨7, _⟩ => ⟨S128x4096, .fp8e4m3⟩
  | .local _ .vmem, ⟨8, _⟩ => ⟨S128x4096, .fp8e4m3⟩
  | _, _ => ⟨S1152x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormQuantHRefIdeal.lean ====
abbrev S1152x4096 : Shape := ⟨2, ![1152, 4096]⟩
abbrev S4096 : Shape := ⟨1, ![4096]⟩
abbrev S1x4096 : Shape := ⟨2, ![1, 4096]⟩
abbrev S1152x128 : Shape := ⟨2, ![1152, 128]⟩
abbrev S1152 : Shape := ⟨1, ![1152]⟩
abbrev S1152x1 : Shape := ⟨2, ![1152, 1]⟩

abbrev nBuf : Space → Nat
  | .hbm => 5
  | .vmem => 4
  | .smem => 0
  | _ => 0

abbrev bufTy : (tb : Table) → Fin (tcTables nBuf tb) → BufTy
  | .hbm, ⟨0, _⟩ => ⟨S1152x4096, .f32⟩
  | .hbm, ⟨1, _⟩ => ⟨S4096, .f32⟩
  | .hbm, ⟨2, _⟩ => ⟨S1x4096, .f32⟩
  | .hbm, ⟨3, _⟩ => ⟨S1152x4096, .fp8e4m3⟩
  | .hbm, ⟨4, _⟩ => ⟨S1152x128, .f32⟩
  | .local _ .vmem, ⟨0, _⟩ => ⟨S1152x4096, .f32⟩
  | .local _ .vmem, ⟨1, _⟩ => ⟨S1x4096, .f32⟩
  | .local _ .vmem, ⟨2, _⟩ => ⟨S1152x4096, .fp8e4m3⟩
  | .local _ .vmem, ⟨3, _⟩ => ⟨S1152x128, .f32⟩
  | _, _ => ⟨S1152x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1152x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1152x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Own.Bits.lean ====
/- Words of four bytes: the mask that one bit of every byte spreads to, and the four byte planes that
   a 2:4 metadata nibble selects. -/
module

public import Idealize.ShloMosaic.Lib.BitcastFour
public import Idealize.ShloMosaic.Lib.ValueIdx

@[expose] public section

set_option maxRecDepth 16384

noncomputable section

namespace Cert.Sparse

open Idealize.ShloMosaic Idealize.ShloMosaic.ValueIdx

/-- The value a group of four channels holds at slot `j`: the first kept byte if the nibble's low index is `j`,
    the second if its high index is, else zero. -/
def plane (j nib : BitVec 32) (v0 v1 : BitVec 8) : BitVec 8 :=
  if nib &&& 3#32 = j then v0 else if nib.sshiftRight 2 = j then v1 else 0#8

/-- Nibble `t` of a metadata word. -/
def nibble (w : BitVec 16) (t : Nat) : BitVec 32 := ((w.setWidth 32).sshiftRight (4 * t)) &&& 15#32

/-- A nibble whose two indices are in increasing order. -/
def Ordered (nib : BitVec 32) : Prop := (nib &&& 3#32).toNat < (nib.sshiftRight 2).toNat

/-- One bit of every byte, spread over its byte. -/
def spread (b : BitVec 32) : BitVec 32 := (b <<< 8) - b

theorem ones_eq (w : BitVec 32) : w &&& 16843009#32
    = (if w.getLsbD 0 then 1#32 else 0#32) ||| (if w.getLsbD 8 then 256#32 else 0#32)
      ||| (if w.getLsbD 16 then 65536#32 else 0#32) ||| (if w.getLsbD 24 then 16777216#32 else 0#32) := by
  apply BitVec.eq_of_getLsbD_eq
  intro i hi
  have h : ∀ (b : Bool) (k : BitVec 32), (if b then k else 0#32).getLsbD i = (b && k.getLsbD i) := by
    intro b k; cases b <;> simp
  simp only [BitVec.getLsbD_and, BitVec.getLsbD_or, h]
  interval_cases i <;> simp

theorem spread_four : ∀ (a b c d : Bool) (q : Fin 32),
    (spread ((if a then 1#32 else 0#32) ||| (if b then 256#32 else 0#32)
      ||| (if c then 65536#32 else 0#32) ||| (if d then 16777216#32 else 0#32))).getLsbD q.val
      = (if q.val / 8 = 0 then a else if q.val / 8 = 1 then b else if q.val / 8 = 2 then c else d) := by
  decide +kernel

/-- Bit `q` of the spread mask of bit 0 of every byte is bit 0 of `q`'s byte. -/
theorem spread_getLsbD (w : BitVec 32) (q : Nat) (hq : q < 32) :
    (spread (w &&& 16843009#32)).getLsbD q = w.getLsbD (8 * (q / 8)) := by
  rw [ones_eq, spread_four _ _ _ _ ⟨q, hq⟩]
  have : q / 8 = 0 ∨ q / 8 = 1 ∨ q / 8 = 2 ∨ q / 8 = 3 := by omega
  rcases this with h | h | h | h <;> simp [h]

/-- The mask of bit `s` of every byte, as the vector unit computes it. -/
def maskW (t s : BitVec 32) : BitVec 32 :=
  IntOp.subi (IntOp.shli .vector (IntOp.andi (IntOp.shrui .vector t s) 16843009#32) 8#32)
    (IntOp.andi (IntOp.shrui .vector t s) 16843009#32)

theorem maskW_getLsbD (t s : BitVec 32) (hs : s.toNat < 8) (q : Nat) (hq : q < 32) :
    (maskW t s).getLsbD q = t.getLsbD (8 * (q / 8) + s.toNat) := by
  have e : maskW t s = spread ((t >>> s) &&& 16843009#32) := by
    unfold maskW spread IntOp.subi IntOp.shli IntOp.andi IntOp.shrui
    rw [if_pos (show (8#32).toNat < 32 by decide), if_pos (show s.toNat < 32 by omega)]
    rfl
  rw [e, spread_getLsbD _ q hq]
  show (t >>> s.toNat).getLsbD _ = _
  rw [BitVec.getLsbD_ushiftRight]
  congr 1
  omega

theorem nibble_lt (w : BitVec 16) (t : Nat) : (nibble w t).toNat < 16 := by
  unfold nibble
  rw [BitVec.toNat_and]
  exact Nat.lt_of_le_of_lt Nat.and_le_right (by decide)

theorem nibble_getLsbD (w : BitVec 16) (t i : Nat) (ht : t < 4) (hi : i < 4) :
    (nibble w t).getLsbD i = w.getLsbD (4 * t + i) := by
  have h15 : (15#32).getLsbD i = true := by interval_cases i <;> rfl
  have hm : (BitVec.setWidth 32 w).msb = false := by
    rw [BitVec.msb_setWidth]; simp
  unfold nibble
  rw [BitVec.getLsbD_and, h15, Bool.and_true, BitVec.sshiftRight_eq_of_msb_false hm, BitVec.getLsbD_ushiftRight,
    BitVec.getLsbD_setWidth]
  have : 4 * t + i < 32 := by omega
  simp [this]

theorem nib_cases : ∀ n : Fin 16, Ordered (BitVec.ofNat 32 n.val) →
    n.val = 4 ∨ n.val = 8 ∨ n.val = 12 ∨ n.val = 9 ∨ n.val = 13 ∨ n.val = 14 := by
  unfold Ordered
  decide +kernel

/-- Under an ordered nibble each plane is the word expression that the kernel forms, bit by bit. -/
theorem plane_bits (nib : BitVec 32) (hn : nib.toNat < 16) (h : Ordered nib) (v0 v1 : BitVec 8) (q : Nat) :
    (plane 0#32 nib v0 v1).getLsbD q = ((v0.getLsbD q ^^ (v0.getLsbD q && nib.getLsbD 0)) ^^ (v0.getLsbD q && nib.getLsbD 1))
    ∧ (plane 1#32 nib v0 v1).getLsbD q = ((v0.getLsbD q && nib.getLsbD 0) || (v1.getLsbD q ^^ (v1.getLsbD q && nib.getLsbD 3)))
    ∧ (plane 2#32 nib v0 v1).getLsbD q = ((v0.getLsbD q && nib.getLsbD 1)
        || ((v1.getLsbD q && nib.getLsbD 3) ^^ ((v1.getLsbD q && nib.getLsbD 3) && nib.getLsbD 2)))
    ∧ (plane 3#32 nib v0 v1).getLsbD q = ((v1.getLsbD q && nib.getLsbD 3) && nib.getLsbD 2) := by
  have e : nib = BitVec.ofNat 32 nib.toNat := by simp
  have hc := nib_cases ⟨nib.toNat, hn⟩ (by rw [← e]; exact h)
  dsimp only at hc
  rw [e]
  generalize nib.toNat = n at hc
  unfold plane
  rcases hc with rfl | rfl | rfl | rfl | rfl | rfl <;>
    cases hx : v0.getLsbD q <;> cases hy : v1.getLsbD q <;> simp [hx, hy]

end Cert.Sparse
end
-- ==== Proof.Own.Words.lean ====
/- The word vectors that the kernel's expansion of one stripe of packed weights is made of: from 128 metadata
   columns and 256 value columns, the four stored planes of 128 channels each. Stated once for every stripe. -/
module

public import Idealize.ShloMosaic.Lib.BitcastFour
public import Idealize.ShloMosaic.Lib.ValueIdx
public import proofs.«01_k».proof.Proof.Own.Bits

@[expose] public section

set_option maxRecDepth 16384

noncomputable section

namespace Cert.Sparse

open Idealize.ShloMosaic Idealize.ShloMosaic.TcCoe Idealize.ShloMosaic.ValueIdx

variable {F : FTy → Type} [FloatOps F]

/-- 64 rows of 128 words: the words of 256 rows of bytes. -/
abbrev SW : Shape := ⟨2, ![64, 128]⟩
/-- 256 rows of 128 bytes. -/
abbrev SB : Shape := ⟨2, ![256, 128]⟩

theorem cast3 : SW.ShapeCasts ⟨3, ![64, 128, 1]⟩ := by decide
theorem cast2 : (⟨3, ![64, 128, 1]⟩ : Shape).ShapeCasts SW := by decide
theorem castB : SB.ShapeCasts SB := by decide
theorem bytesToWords : SB.Bitcasts 8 SW 32 := by decide
theorem wordsToBytes : SW.Bitcasts 32 SB 8 := by decide

/-- The lane number. -/
def laneV : IVec SW 32 := iota .tc SW 32 [1] (by decide)
/-- Whether the lane is one of the first 64. -/
def lowV : IVec SW 1 := cmpi .slt laneV (broadcast SW 64#32)
/-- Twice the lane in the low half, the odd lanes in the high half. -/
def firstV : IVec SW 32 :=
  select lowV (muli (broadcast SW 2#32) laneV)
    (addi (muli (broadcast SW 2#32) (subi laneV (broadcast SW 64#32))) (broadcast SW 1#32))
/-- The odd lanes in the low half, twice the lane in the high half. -/
def secondV : IVec SW 32 :=
  select lowV (addi (muli (broadcast SW 2#32) laneV) (broadcast SW 1#32))
    (muli (broadcast SW 2#32) (subi laneV (broadcast SW 64#32)))
/-- The remainder with the divisor's sign. -/
def modV (d : BitVec 32) (x : IVec SW 32) : IVec SW 32 :=
  let e : BitVec 32 := Scalar.select (Scalar.cmpi .eq d 0#32) 1#32 d
  let r : IVec SW 32 := remsi x (broadcast SW e)
  select (andi (xori (cmpi .slt r (broadcast SW 0#32))
      (broadcastTo SW (broadcast SW (Scalar.cmpi .slt e 0#32)) (by decide))) (cmpi .ne r (broadcast SW 0#32)))
    (addi r (broadcast SW e)) r
/-- The quotient rounded down. -/
def divV (d : BitVec 32) (x : IVec SW 32) : IVec SW 32 :=
  let q : IVec SW 32 := divsi x (broadcast SW d)
  select (andi
      (cmpi .ne
        (subi (extui 32 (cmpi .sgt x (broadcast SW 0#32)) (by decide)) (extui 32 (cmpi .slt x (broadcast SW 0#32)) (by decide)))
        (broadcast SW (Scalar.subi (Scalar.extui (Scalar.cmpi .sgt d 0#32) : BitVec 32) (Scalar.extui (Scalar.cmpi .slt d 0#32)))))
      (cmpi .ne (remsi x (broadcast SW d)) (broadcast SW 0#32)))
    (subi q (broadcast SW 1#32)) q
/-- The bit at which the lane's nibble starts in its byte. -/
def nibV : IVec SW 32 := muli (broadcast SW 4#32) (modV 2#32 laneV)
/-- The lane from which a lane takes its metadata byte. -/
def idxV (o : BitVec 32) : IVec SW 32 :=
  addi (addi (broadcast SW o) (divV 4#32 laneV)) (muli (broadcast SW 64#32) (divV 2#32 (modV 4#32 laneV)))
/-- A lane number from either end. -/
def wrapV (x : IVec SW 32) : IVec SW 32 :=
  select (cmpi .slt x (broadcast SW 0#32)) (addi x (broadcast SW 128#32)) x
/-- The lanes of `x` at the indices `i`. -/
def takeV (x i : IVec SW 32) : IVec SW 32 :=
  dynamicGather 1 x (shapeCast SW (shapeCast ⟨3, ![64, 128, 1]⟩ (wrapV i) cast3) cast2)
/-- The lanes rotated by half their number. -/
def rollV (x : IVec SW 32) : IVec SW 32 := dynamicRotate 1 64#32 none x (by decide)
/-- The words of the low bytes of the metadata. -/
def loV (m : IVec SB 16) : IVec SW 32 :=
  bitcast SW 32 (trunci 8 (andi (extui 32 m (by decide)) (broadcast SB 255#32)) (by decide)) bytesToWords
/-- The words of the high bytes of the metadata. -/
def hiV (m : IVec SB 16) : IVec SW 32 :=
  bitcast SW 32 (trunci 8 (shrsi (extui 32 m (by decide)) (broadcast SB 8#32)) (by decide)) bytesToWords
/-- The metadata of the two chunks that share a tile: low bytes in the low lanes, high bytes in the high lanes. -/
def srcV (c : Fin 2) (m : IVec SB 16) : IVec SW 32 :=
  match c with
  | 0 => select lowV (loV m) (rollV (hiV m))
  | 1 => select lowV (rollV (loV m)) (hiV m)
/-- The first lane of the half's metadata. -/
def offV (h : Fin 2) : BitVec 32 :=
  match h with
  | 0 => 0#32
  | 1 => 32#32
/-- The word of metadata bytes of every lane. -/
def tV (c h : Fin 2) (m : IVec SB 16) : IVec SW 32 := takeV (srcV c m) (idxV (offV h))
/-- The words of the first kept values. -/
def v0V (x y : IVec SB 8) : IVec SW 32 :=
  select lowV (takeV (bitcast SW 32 x bytesToWords) firstV) (takeV (bitcast SW 32 y bytesToWords) secondV)
/-- The words of the second kept values. -/
def v1V (x y : IVec SB 8) : IVec SW 32 :=
  rollV (select lowV (takeV (bitcast SW 32 y bytesToWords) secondV) (takeV (bitcast SW 32 x bytesToWords) firstV))
/-- Every byte all ones or all zeros, as its bit at the shift says. -/
def maskV (t s : IVec SW 32) : IVec SW 32 :=
  subi (shli (andi (shrui t s) (broadcast SW 16843009#32)) (broadcast SW 8#32)) (andi (shrui t s) (broadcast SW 16843009#32))
/-- The four planes' words. -/
def planeV (j : Fin 4) (t v0 v1 : IVec SW 32) : IVec SW 32 :=
  let x1 := andi v0 (maskV t nibV)
  let x2 := andi v0 (maskV t (addi nibV (broadcast SW 1#32)))
  let h1 := andi v1 (maskV t (addi nibV (broadcast SW 3#32)))
  let p3 := andi h1 (maskV t (addi nibV (broadcast SW 2#32)))
  match j with
  | 0 => xori (xori v0 x1) x2
  | 1 => ori x1 (xori v1 h1)
  | 2 => ori x2 (xori h1 p3)
  | 3 => p3
/-- The plane stored for slot `j`, from the stripe's metadata and values. -/
def stripeV (c h : Fin 2) (j : Fin 4) (m : IVec SB 16) (x y : IVec SB 8) : FVec F SB .fp8e4m3 :=
  shapeCast SB (bitcastToFloat .fp8e4m3 (bitcast SB 8 (planeV j (tV c h m) (v0V x y) (v1V x y)) wordsToBytes)) castB

end Cert.Sparse
-- ==== Proof.Own.Stripe.lean ====
/- The value of a stored plane at a channel: the byte that the metadata nibble of the channel's group selects. -/
module

public import Idealize.ShloMosaic.Lib.BitcastFour
public import Idealize.ShloMosaic.Lib.ValueIdx
public import Idealize.ShloMosaic.Lib.KernelVsHost
public import proofs.«01_k».proof.Proof.Own.Words

@[expose] public section

set_option maxRecDepth 16384

noncomputable section

namespace Cert.Sparse

open Idealize.ShloMosaic Idealize.ShloMosaic.TcCoe Idealize.ShloMosaic.ValueIdx

variable {F : FTy → Type} [FloatOps F]

theorem lowV_apply (r : Fin 64) (l : Fin 128) : lowV (ix2 r l) = if l.val < 64 then 1#1 else 0#1 := by
  have h : ∀ l : Fin 128, lowV (ix2 (0 : Fin 64) l) = if l.val < 64 then 1#1 else 0#1 := by decide +kernel
  exact h l

theorem firstV_apply (r : Fin 64) (l : Fin 128) :
    (wrapV firstV (ix2 r l)).toNat % 128 = if l.val < 64 then 2 * l.val else 2 * (l.val - 64) + 1 := by
  have h : ∀ l : Fin 128, (wrapV firstV (ix2 (0 : Fin 64) l)).toNat % 128 = if l.val < 64 then 2 * l.val else 2 * (l.val - 64) + 1 := by
    decide +kernel
  exact h l

theorem secondV_apply (r : Fin 64) (l : Fin 128) :
    (wrapV secondV (ix2 r l)).toNat % 128 = if l.val < 64 then 2 * l.val + 1 else 2 * (l.val - 64) := by
  have h : ∀ l : Fin 128, (wrapV secondV (ix2 (0 : Fin 64) l)).toNat % 128 = if l.val < 64 then 2 * l.val + 1 else 2 * (l.val - 64) := by
    decide +kernel
  exact h l

theorem nibV_apply (r : Fin 64) (l : Fin 128) : nibV (ix2 r l) = BitVec.ofNat 32 (4 * (l.val % 2)) := by
  have h : ∀ l : Fin 128, nibV (ix2 (0 : Fin 64) l) = BitVec.ofNat 32 (4 * (l.val % 2)) := by decide +kernel
  exact h l

theorem idxV_apply (h : Fin 2) (r : Fin 64) (l : Fin 128) :
    (wrapV (idxV (offV h)) (ix2 r l)).toNat % 128 = 32 * h.val + l.val / 4 + 64 * (l.val % 4 / 2) := by
  have e : ∀ (h : Fin 2) (l : Fin 128),
      (wrapV (idxV (offV h)) (ix2 (0 : Fin 64) l)).toNat % 128 = 32 * h.val + l.val / 4 + 64 * (l.val % 4 / 2) := by
    decide +kernel
  exact e h l

theorem takeV_apply (x i : IVec SW 32) (r : Fin 64) (l l' : Fin 128) (h : (wrapV i (ix2 r l)).toNat % 128 = l'.val) :
    takeV x i (ix2 r l) = x (ix2 r l') := by
  unfold takeV
  rw [shapeCast_shapeCast]
  show x _ = _
  refine congrArg x (funext fun b => ?_)
  match b with
  | ⟨0, _⟩ => rfl
  | ⟨1, _⟩ => exact Fin.ext h

theorem rollV_apply (x : IVec SW 32) (r : Fin 64) (l l' : Fin 128) (h : (l.val + 64) % 128 = l'.val) :
    rollV x (ix2 r l) = x (ix2 r l') := by
  refine dynamicRotate_apply 1 64#32 x _ _ _ fun b => ?_
  match b with
  | ⟨0, _⟩ => rfl
  | ⟨1, _⟩ =>
    show l'.val = (l.val + 128 - 64 % 128) % 128
    omega

theorem select_low (x y : IVec SW 32) (r : Fin 64) (l : Fin 128) :
    select lowV x y (ix2 r l) = if l.val < 64 then x (ix2 r l) else y (ix2 r l) := by
  show (if lowV (ix2 r l) = 1#1 then _ else _) = _
  rw [lowV_apply]
  by_cases h : l.val < 64
  · rw [if_pos h, if_pos rfl, if_pos h]
  · rw [if_neg h, if_neg (by decide), if_neg h]

/-- The lane of the tile that holds a lane's metadata, and which byte of it. -/
theorem loV_getLsbD (m : IVec SB 16) (r : Fin 64) (l : Fin 128) (n : Fin 256) (q : Nat) (hq : q < 32)
    (hn : n.val = 4 * r.val + q / 8) : (loV m (ix2 r l)).getLsbD q = (m (ix2 n l)).getLsbD (q % 8) := by
  unfold loV
  rw [bitcast_8_32_getLsbD_ix2 _ _ r l q hq n hn]
  show (BitVec.setWidth 8 (BitVec.setWidth 32 (m (ix2 n l)) &&& 255#32)).getLsbD (q % 8) = _
  have h : q % 8 < 8 := Nat.mod_lt _ (by decide)
  have h2 : (255#32).getLsbD (q % 8) = true := by
    generalize q % 8 = a at h; interval_cases a <;> rfl
  rw [BitVec.getLsbD_setWidth, BitVec.getLsbD_and, BitVec.getLsbD_setWidth, h2]
  simp [h, show q % 8 < 32 by omega]

theorem hiV_getLsbD (m : IVec SB 16) (r : Fin 64) (l : Fin 128) (n : Fin 256) (q : Nat) (hq : q < 32)
    (hn : n.val = 4 * r.val + q / 8) : (hiV m (ix2 r l)).getLsbD q = (m (ix2 n l)).getLsbD (8 + q % 8) := by
  unfold hiV
  rw [bitcast_8_32_getLsbD_ix2 _ _ r l q hq n hn]
  show (BitVec.setWidth 8 (IntOp.shrsi .vector (BitVec.setWidth 32 (m (ix2 n l))) 8#32)).getLsbD (q % 8) = _
  have h : q % 8 < 8 := Nat.mod_lt _ (by decide)
  have hm : (BitVec.setWidth 32 (m (ix2 n l))).msb = false := by
    rw [BitVec.msb_setWidth]; simp
  unfold IntOp.shrsi
  rw [if_pos (by decide), BitVec.getLsbD_setWidth]
  show (decide _ && ((BitVec.setWidth 32 (m (ix2 n l))).sshiftRight 8).getLsbD (q % 8)) = _
  rw [BitVec.sshiftRight_eq_of_msb_false hm, BitVec.getLsbD_ushiftRight, BitVec.getLsbD_setWidth]
  simp [h, show 8 + q % 8 < 32 by omega]

/-- A lane's metadata byte: the byte of its group's word that holds its nibble. -/
theorem tV_getLsbD (c h : Fin 2) (m : IVec SB 16) (r : Fin 64) (l : Fin 128) (n : Fin 256) (q : Nat) (hq : q < 32)
    (hn : n.val = 4 * r.val + q / 8) (g : Fin 128) (hg : g.val = 64 * c.val + 32 * h.val + l.val / 4) :
    (tV c h m (ix2 r l)).getLsbD q = (m (ix2 n g)).getLsbD (8 * (l.val % 4 / 2) + q % 8) := by
  have hl := l.isLt
  have hh := h.isLt
  have hc := c.isLt
  have hi := idxV_apply h r l
  unfold tV
  rw [takeV_apply _ _ r l ⟨32 * h.val + l.val / 4 + 64 * (l.val % 4 / 2), by omega⟩ hi]
  match c with
  | 0 =>
    have h0 : ((0 : Fin 2) : Nat) = 0 := rfl
    show (select lowV (loV m) (rollV (hiV m)) _).getLsbD q = _
    rw [select_low]
    dsimp only
    by_cases ht : l.val % 4 / 2 = 0
    · rw [if_pos (by omega), loV_getLsbD m r _ n q hq hn]
      exact congrArg₂ (fun (a : Fin 128) s => (m (ix2 n a)).getLsbD s) (Fin.ext (by rw [hg]; dsimp only; omega)) (by omega)
    · have ht1 : l.val % 4 / 2 = 1 := by omega
      rw [if_neg (by omega), rollV_apply _ r _ g (by dsimp only; omega), hiV_getLsbD m r _ n q hq hn]
      exact congrArg (m (ix2 n g)).getLsbD (by omega)
  | 1 =>
    have h0 : ((1 : Fin 2) : Nat) = 1 := rfl
    show (select lowV (rollV (loV m)) (hiV m) _).getLsbD q = _
    rw [select_low]
    dsimp only
    by_cases ht : l.val % 4 / 2 = 0
    · rw [if_pos (by omega), rollV_apply _ r _ g (by dsimp only; omega), loV_getLsbD m r _ n q hq hn]
      exact congrArg (m (ix2 n g)).getLsbD (by omega)
    · have ht1 : l.val % 4 / 2 = 1 := by omega
      rw [if_neg (by omega), hiV_getLsbD m r _ n q hq hn]
      exact congrArg₂ (fun (a : Fin 128) s => (m (ix2 n a)).getLsbD s) (Fin.ext (by rw [hg]; dsimp only; omega)) (by omega)

/-- The byte at channel group `l` of the first (`e = 0`) or second (`e = 1`) kept values, of a stripe of 256
    columns held as two tiles. -/
def kept (x y : IVec SB 8) (n : Fin 256) (l : Fin 128) (e : Fin 2) : BitVec 8 :=
  if h : l.val < 64 then x (ix2 n ⟨2 * l.val + e.val, by omega⟩) else y (ix2 n ⟨2 * (l.val - 64) + e.val, by omega⟩)

theorem v0V_getLsbD (x y : IVec SB 8) (r : Fin 64) (l : Fin 128) (n : Fin 256) (q : Nat) (hq : q < 32)
    (hn : n.val = 4 * r.val + q / 8) : (v0V x y (ix2 r l)).getLsbD q = (kept x y n l 0).getLsbD (q % 8) := by
  have hl := l.isLt
  unfold v0V kept
  rw [select_low]
  by_cases h : l.val < 64
  · rw [if_pos h, dif_pos h, takeV_apply _ _ r l ⟨2 * l.val, by omega⟩ (by rw [firstV_apply, if_pos h]),
      bitcast_8_32_getLsbD_ix2 _ _ r _ q hq n hn]
    rfl
  · rw [if_neg h, dif_neg h, takeV_apply _ _ r l ⟨2 * (l.val - 64), by omega⟩ (by rw [secondV_apply, if_neg h]),
      bitcast_8_32_getLsbD_ix2 _ _ r _ q hq n hn]
    rfl

theorem v1V_getLsbD (x y : IVec SB 8) (r : Fin 64) (l : Fin 128) (n : Fin 256) (q : Nat) (hq : q < 32)
    (hn : n.val = 4 * r.val + q / 8) : (v1V x y (ix2 r l)).getLsbD q = (kept x y n l 1).getLsbD (q % 8) := by
  have hl := l.isLt
  unfold v1V kept
  rw [rollV_apply _ r l ⟨(l.val + 64) % 128, by omega⟩ rfl, select_low]
  dsimp only
  by_cases h : l.val < 64
  · rw [if_neg (by omega), dif_pos h, takeV_apply _ _ r _ ⟨2 * l.val + 1, by omega⟩
      (by rw [firstV_apply, if_neg (by dsimp only; omega)]; dsimp only; omega),
      bitcast_8_32_getLsbD_ix2 _ _ r _ q hq n hn]
    rfl
  · rw [if_pos (by omega), dif_neg h, takeV_apply _ _ r _ ⟨2 * (l.val - 64) + 1, by omega⟩
      (by rw [secondV_apply, if_pos (by dsimp only; omega)]; dsimp only; omega),
      bitcast_8_32_getLsbD_ix2 _ _ r _ q hq n hn]
    rfl

theorem maskV_apply (t s : IVec SW 32) (i : SW.Idx) : maskV t s i = maskW (t i) (s i) := rfl

/-- A lane's mask for bit `k` of its nibble. -/
theorem mask_getLsbD (c h : Fin 2) (m : IVec SB 16) (r : Fin 64) (l : Fin 128) (n : Fin 256) (q : Nat) (hq : q < 32)
    (hn : n.val = 4 * r.val + q / 8) (g : Fin 128) (hg : g.val = 64 * c.val + 32 * h.val + l.val / 4)
    (s : IVec SW 32) (k : Nat) (hk : k < 4) (hs : (s (ix2 r l)).toNat = 4 * (l.val % 2) + k) :
    (maskV (tV c h m) s (ix2 r l)).getLsbD q = (nibble (m (ix2 n g)) (l.val % 4)).getLsbD k := by
  rw [maskV_apply, maskW_getLsbD _ _ (by omega) q hq, tV_getLsbD c h m r l n _ (by omega) (by omega) g hg,
    nibble_getLsbD _ _ _ (by omega) hk, hs]
  congr 1
  omega

theorem shift_toNat (r : Fin 64) (l : Fin 128) (k : Nat) (hk : k < 4) :
    (addi nibV (broadcast SW (BitVec.ofNat 32 k)) (ix2 r l)).toNat = 4 * (l.val % 2) + k := by
  show (nibV (ix2 r l) + BitVec.ofNat 32 k).toNat = _
  rw [nibV_apply]
  simp only [BitVec.toNat_add, BitVec.toNat_ofNat]
  omega

/-- Bit `q` of the word of plane `j`. -/
theorem planeV_getLsbD (c h : Fin 2) (j : Fin 4) (m : IVec SB 16) (x y : IVec SB 8) (r : Fin 64) (l : Fin 128) (n : Fin 256)
    (q : Nat) (hq : q < 32) (hn : n.val = 4 * r.val + q / 8) (g : Fin 128)
    (hg : g.val = 64 * c.val + 32 * h.val + l.val / 4) (ho : Ordered (nibble (m (ix2 n g)) (l.val % 4))) :
    (planeV j (tV c h m) (v0V x y) (v1V x y) (ix2 r l)).getLsbD q
      = (plane (BitVec.ofNat 32 j.val) (nibble (m (ix2 n g)) (l.val % 4)) (kept x y n l 0) (kept x y n l 1)).getLsbD (q % 8) := by
  have h0 := v0V_getLsbD x y r l n q hq hn
  have h1 := v1V_getLsbD x y r l n q hq hn
  have a0 := mask_getLsbD c h m r l n q hq hn g hg nibV 0 (by decide) (by rw [nibV_apply, BitVec.toNat_ofNat]; omega)
  have a1 := mask_getLsbD c h m r l n q hq hn g hg (addi nibV (broadcast SW 1#32)) 1 (by decide) (shift_toNat r l 1 (by decide))
  have b0 := mask_getLsbD c h m r l n q hq hn g hg (addi nibV (broadcast SW 2#32)) 2 (by decide) (shift_toNat r l 2 (by decide))
  have b1 := mask_getLsbD c h m r l n q hq hn g hg (addi nibV (broadcast SW 3#32)) 3 (by decide) (shift_toNat r l 3 (by decide))
  obtain ⟨p0, p1, p2, p3⟩ := plane_bits _ (nibble_lt _ _) ho (kept x y n l 0) (kept x y n l 1) (q % 8)
  simp only [← h0, ← h1, ← a0, ← a1, ← b0, ← b1] at p0 p1 p2 p3
  simp only [← BitVec.getLsbD_and, ← BitVec.getLsbD_or, ← BitVec.getLsbD_xor] at p0 p1 p2 p3
  match j with
  | 0 => exact p0.symm
  | 1 => exact p1.symm
  | 2 => exact p2.symm
  | 3 => exact p3.symm

/-- Bit `q` of byte row `n` is bit `8 (n % 4) + q` of the word row `n / 4`. -/
theorem wordsToBytes_getLsbD (x : IVec SW 32) (n : Fin 256) (l : Fin 128) (q : Nat) (hq : q < 8) :
    (bitcast SB 8 x wordsToBytes (ix2 n l)).getLsbD q = (x (ix2 ⟨n.val / 4, by omega⟩ l)).getLsbD (8 * (n.val % 4) + q) := by
  have hr : SB.row (ix2 n l) = n.val := rfl
  rw [bitcast_getLsbD x wordsToBytes _ q hq (by decide)]
  congr 1
  · congr 1
    funext a
    match a with
    | ⟨0, _⟩ =>
      refine Fin.ext ((wordsToBytes.srcIdx_row _ _ _ ⟨0, Nat.zero_lt_two⟩ rfl).trans ?_)
      rw [hr]; show _ = n.val / 4; omega
    | ⟨1, _⟩ => exact Fin.ext (wordsToBytes.srcIdx_other _ _ _ ⟨1, Nat.one_lt_two⟩ (by show ¬ 1 + 2 = 2; omega))
  · rw [hr]; omega

/-- The plane stored for slot `j`, at row `n` and lane `l`: the byte that the lane's nibble selects. -/
theorem stripeV_apply (c h : Fin 2) (j : Fin 4) (m : IVec SB 16) (x y : IVec SB 8) (n : Fin 256) (l : Fin 128) (g : Fin 128)
    (hg : g.val = 64 * c.val + 32 * h.val + l.val / 4) (ho : Ordered (nibble (m (ix2 n g)) (l.val % 4))) :
    stripeV (F := F) c h j m x y (ix2 n l)
      = FloatOps.ofBits .fp8e4m3
          (plane (BitVec.ofNat 32 j.val) (nibble (m (ix2 n g)) (l.val % 4)) (kept x y n l 0) (kept x y n l 1)) := by
  unfold stripeV
  rw [shapeCast_self]
  show FloatOps.ofBits .fp8e4m3 (bitcast SB 8 _ wordsToBytes (ix2 n l)) = _
  congr 1
  refine BitVec.eq_of_getLsbD_eq fun q hq => ?_
  have hq' : q < 8 := hq
  rw [wordsToBytes_getLsbD _ n l q hq', planeV_getLsbD c h j m x y _ l n _ (by omega) (by dsimp only; omega) g hg ho]
  congr 1
  omega

end Cert.Sparse
-- ==== Proof.Own.Tile.lean ====
/- The blocks that the gate and up kernel leaves at a grid point, as functions of the point's input blocks. -/
module

public import proofs.«01_k».proof.Proof.Gen.GateUpIdeal.Value
public import proofs.«01_k».proof.Proof.Own.Stripe
public import Idealize.ShloMosaic.Lib.Pipeline.ValueKit
public import Idealize.ShloMosaic.Lib.Pipeline.ReadBack

@[expose] public section

set_option maxRecDepth 16384

noncomputable section

namespace Cert.GateUpTile

open Cert.GateUpIdeal Cert.GateUpIdeal.Gen Cert.Sparse
open Idealize.ShloMosaic Idealize.ShloMosaic.TcCoe Idealize.ShloMosaic.ValueIdx Idealize.SL.Sem

variable {F : FTy → Type} [FloatOps F]

/-- The stripes in the order they are stored. -/
def order : List (Fin 4 × Fin 2 × Fin 4) :=
  (List.finRange 4).flatMap fun q => (List.finRange 2).flatMap fun h => (List.finRange 4).map fun j => (q, h, j)

theorem inbM (q : Fin 4) : ∀ a, (![0, 128 * (q.val / 2)] : Fin 2 → Nat) a + S256x128.size a ≤ S256x256.size a := by
  revert q; decide
theorem inbX (q : Fin 4) (h : Fin 2) : ∀ a, (![0, 512 * q.val + 256 * h.val] : Fin 2 → Nat) a + S256x128.size a ≤ S256x2048.size a := by
  revert q h; decide
theorem inbY (q : Fin 4) (h : Fin 2) : ∀ a, (![0, 512 * q.val + 256 * h.val + 128] : Fin 2 → Nat) a + S256x128.size a ≤ S256x2048.size a := by
  revert q h; decide
theorem inbW (q : Fin 4) (h : Fin 2) (j : Fin 4) :
    ∀ a, (![0, 1024 * q.val + 256 * j.val + 128 * h.val] : Fin 2 → Nat) a + S256x128.size a ≤ S256x4096.size a := by
  revert q h j; decide

/-- The piece stored for chunk `q`, half `h`, slot `j`. -/
def stripe (vals : Vec F S256x2048 .i8) (mt : Vec F S256x256 .i16) (k : Fin 4 × Fin 2 × Fin 4) :
    View.Piece (Elt F) S256x4096 .fp8e4m3 :=
  ⟨Rect.unit (s := S256x4096) ![0, 1024 * k.1.val + 256 * k.2.2.val + 128 * k.2.1.val] S256x128.size (inbW k.1 k.2.1 k.2.2),
    stripeV (F := F) (Fin.ofNat 2 k.1.val) k.2.1 k.2.2
      (View.ld (Val := Elt F) (e' := .i16) mt (Rect.unit (s := S256x256) ![0, 128 * (k.1.val / 2)] S256x128.size (inbM k.1)))
      (View.ld (Val := Elt F) (e' := .i8) vals (Rect.unit (s := S256x2048) ![0, 512 * k.1.val + 256 * k.2.1.val] S256x128.size (inbX k.1 k.2.1)))
      (View.ld (Val := Elt F) (e' := .i8) vals (Rect.unit (s := S256x2048) ![0, 512 * k.1.val + 256 * k.2.1.val + 128] S256x128.size (inbY k.1 k.2.1)))⟩

/-- The stores of a whole weight tile, last first. -/
def stripes (vals : Vec F S256x2048 .i8) (mt : Vec F S256x256 .i16) : List (View.Piece (Elt F) S256x4096 .fp8e4m3) :=
  order.reverse.map (stripe vals mt)

/-- The weight tile that a tile of packed values and metadata expands to. -/
def wts (vals : Vec F S256x2048 .i8) (mt : Vec F S256x256 .i16) : Vec F S256x4096 .fp8e4m3 := View.canon (stripes vals mt)

/-- The first 128 columns of the activation block. -/
def half0 (a : Vec F S1152x4096 .fp8e4m3) (sa : Vec F S1152x128 .f32) (wg wu : Vec F S256x4096 .fp8e4m3) (gs us : Vec F S1x256 .f32) :
    FVec F S1152x128 .f32 :=
  k0_pay393 (k0_pay388 a wg) (k0_pay389 a) wu (constant S1152x256 .f32 0x00000000#32) sa
    (View.ld (Val := Elt F) (e' := .f32) gs (Rect.unit (s := S1x256) ![0, 0] S1x128.size inb_S1x256_S1x128_0_0))
    (View.ld (Val := Elt F) (e' := .f32) us (Rect.unit (s := S1x256) ![0, 0] S1x128.size inb_S1x256_S1x128_0_0))

/-- The last 128 columns of the activation block. -/
def half1 (a : Vec F S1152x4096 .fp8e4m3) (sa : Vec F S1152x128 .f32) (wg wu : Vec F S256x4096 .fp8e4m3) (gs us : Vec F S1x256 .f32) :
    FVec F S1152x128 .f32 :=
  k0_pay395 (k0_pay388 a wg) (k0_pay389 a) wu (constant S1152x256 .f32 0x00000000#32) sa
    (View.ld (Val := Elt F) (e' := .f32) gs (Rect.unit (s := S1x256) ![0, 128] S1x128.size inb_S1x256_S1x128_0_128))
    (View.ld (Val := Elt F) (e' := .f32) us (Rect.unit (s := S1x256) ![0, 128] S1x128.size inb_S1x256_S1x128_0_128))

/-- The running maxima after the block. -/
def peak (s : Vec F S1152x128 .f32) (a : Vec F S1152x4096 .fp8e4m3) (sa : Vec F S1152x128 .f32) (wg wu : Vec F S256x4096 .fp8e4m3)
    (gs us : Vec F S1x256 .f32) : FVec F S1152x128 .f32 :=
  k0_pay1 (k0_pay394 (k0_pay388 a wg) (k0_pay389 a) wu (constant S1152x256 .f32 0x00000000#32) sa s
      (View.ld (Val := Elt F) (e' := .f32) gs (Rect.unit (s := S1x256) ![0, 0] S1x128.size inb_S1x256_S1x128_0_0))
      (View.ld (Val := Elt F) (e' := .f32) us (Rect.unit (s := S1x256) ![0, 0] S1x128.size inb_S1x256_S1x128_0_0)))
    (half1 a sa wg wu gs us)

/-- The activation block. -/
def actBlock (a : Vec F S1152x4096 .fp8e4m3) (sa : Vec F S1152x128 .f32) (wg wu : Vec F S256x4096 .fp8e4m3) (gs us : Vec F S1x256 .f32) :
    Vec F S1152x256 .f32 :=
  View.canon [(⟨Rect.unit (s := S1152x256) ![0, 128] S1152x128.size inb_S1152x256_S1152x128_0_128, half1 a sa wg wu gs us⟩ : View.Piece (Elt F) S1152x256 .f32),
    ⟨Rect.unit (s := S1152x256) ![0, 0] S1152x128.size inb_S1152x256_S1152x128_0_0, half0 a sa wg wu gs us⟩]

theorem two_zero : ∀ a : Fin 2, (![0, 0] : Fin 2 → Nat) a = 0 := by decide

theorem readCov_stripes (v : View sig .tc .vmem S256x4096 .fp8e4m3) (vals : Vec F S256x2048 .i8) (mt : Vec F S256x256 .i16) :
    v.readCov (stripes vals mt) (Rect.unit (s := S256x4096) ![0, 0] S256x4096.size inb_S256x4096_S256x4096_0_0).toLoadRect = wts vals mt := by
  rw [View.readCov_eq_canon']
  exact View.ld_unit_lit (S := S256x4096) _ _ two_zero

/-- A whole load of a buffer that holds `x`. -/
theorem ld_unread {n k : Nat} {e : EltTy} {M : Memref sig .tc .vmem ⟨2, ![n, k]⟩ e} (h : M.IsWhole)
    (x : (⟨2, ![n, k]⟩ : Shape).Idx → Elt F e) (inb) :
    View.ld (Val := Elt F) (e' := e) (M.view.read (Elt F) (h.unread x))
      (Rect.unit (s := ⟨2, ![n, k]⟩) ![0, 0] (⟨2, ![n, k]⟩ : Shape).size inb) = x := by
  rw [h.read_unread]
  exact View.ld_unit_lit (S := ⟨2, ![n, k]⟩) _ _ two_zero

variable (c : Dev nD) (i : grid0.Coords)
  (arg1 : Memref sig .tc .vmem S1152x4096 .fp8e4m3) (harg1 : arg1.IsWhole)
  (arg2 : Memref sig .tc .vmem S1152x128 .f32) (harg2 : arg2.IsWhole)
  (arg3 : Memref sig .tc .vmem S256x2048 .i8) (harg3 : arg3.IsWhole)
  (arg4 : Memref sig .tc .vmem S256x256 .i16) (harg4 : arg4.IsWhole)
  (arg5 : Memref sig .tc .vmem S1x256 .f32) (harg5 : arg5.IsWhole)
  (arg6 : Memref sig .tc .vmem S256x2048 .i8) (harg6 : arg6.IsWhole)
  (arg7 : Memref sig .tc .vmem S256x256 .i16) (harg7 : arg7.IsWhole)
  (arg8 : Memref sig .tc .vmem S1x256 .f32) (harg8 : arg8.IsWhole)
  (arg9 : Memref sig .tc .vmem S1152x256 .f32) (harg9 : arg9.IsWhole)
  (arg10 : Memref sig .tc .vmem S1152x128 .f32) (harg10 : arg10.IsWhole)
  (arg11 : Memref sig .tc .vmem S256x4096 .fp8e4m3) (harg11 : arg11.IsWhole)
  (arg12 : Memref sig .tc .vmem S256x4096 .fp8e4m3) (harg12 : arg12.IsWhole)
  (x0 : Vec F S1152x4096 .fp8e4m3) (x1 : Vec F S1152x128 .f32) (x2 : Vec F S256x2048 .i8) (x3 : Vec F S256x256 .i16)
  (x4 : Vec F S1x256 .f32) (x5 : Vec F S256x2048 .i8) (x6 : Vec F S256x256 .i16) (x7 : Vec F S1x256 .f32)
  (xo9 : Vec F S1152x128 .f32)

/-- The activation block that the first point leaves. -/
theorem out_A_8 (hc0 : cond0_0 i) (hc1 : ¬cond0_1 i) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = actBlock x0 x1 (wts x2 x3) (wts x5 x6) x4 x7 := by
  have raw : out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = VO0_8.read (Elt F) (VO0_8.writes (Elt F) VO0_8.junk [(⟨Rect.unit (s := S1152x256) ![0, 128] S1152x128.size inb_S1152x256_S1152x128_0_128, half1 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x256 .f32),
        ⟨Rect.unit (s := S1152x256) ![0, 0] S1152x128.size inb_S1152x256_S1152x128_0_0, half0 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩]) := by
    sl_kernel_rfl
  rw [raw, ld_unread harg1, ld_unread harg2, harg3.read_unread, harg4.read_unread, harg5.read_unread, harg6.read_unread,
    harg7.read_unread, harg8.read_unread, readCov_stripes, readCov_stripes, View.read_writes_junk_eq_canon]
  rfl

/-- The maxima that the first point leaves. -/
theorem out_A_9 (hc0 : cond0_0 i) (hc1 : ¬cond0_1 i) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = peak k0_pay392 x0 x1 (wts x2 x3) (wts x5 x6) x4 x7 := by
  have raw : out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7
      = VO0_9.read (Elt F) (VO0_9.writes (Elt F) VO0_9.junk [(⟨(Rect.unit (s := S1152x128) ![0, 0] S1152x128.size inb_S1152x128_S1152x128_0_0), peak (arg10.view.readCov [(⟨(Rect.unit (s := S1152x128) ![0, 0] S1152x128.size inb_S1152x128_S1152x128_0_0), k0_pay392⟩ : View.Piece (Elt F) S1152x128 .f32)] (Rect.unit (s := S1152x128) ![0, 0] S1152x128.size inb_S1152x128_S1152x128_0_0).toLoadRect) (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x128 .f32), (⟨(Rect.unit (s := S1152x128) ![0, 0] S1152x128.size inb_S1152x128_S1152x128_0_0), k0_pay392⟩ : View.Piece (Elt F) S1152x128 .f32)]) := by
    sl_kernel_rfl
  rw [raw, ld_unread harg1, ld_unread harg2, harg3.read_unread, harg4.read_unread, harg5.read_unread, harg6.read_unread,
    harg7.read_unread, harg8.read_unread, readCov_stripes, readCov_stripes, View.read_writes_junk_eq_canon]
  rw [View.readCov_unit_lit (S := S1152x128) _ _ _ two_zero]
  exact View.canon_cons_unit_lit (S := S1152x128) _ _ _ two_zero

/-- The activation block that a middle point leaves. -/
theorem out_B_8 (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = actBlock x0 x1 (wts x2 x3) (wts x5 x6) x4 x7 := by
  have raw : out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = VO0_8.read (Elt F) (VO0_8.writes (Elt F) VO0_8.junk [(⟨Rect.unit (s := S1152x256) ![0, 128] S1152x128.size inb_S1152x256_S1152x128_0_128, half1 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x256 .f32),
        ⟨Rect.unit (s := S1152x256) ![0, 0] S1152x128.size inb_S1152x256_S1152x128_0_0, half0 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩]) := by
    sl_kernel_rfl
  rw [raw, ld_unread harg1, ld_unread harg2, harg3.read_unread, harg4.read_unread, harg5.read_unread, harg6.read_unread,
    harg7.read_unread, harg8.read_unread, readCov_stripes, readCov_stripes, View.read_writes_junk_eq_canon]
  rfl

/-- The maxima that a middle point leaves. -/
theorem out_B_9 (hc0 : ¬cond0_0 i) (hc1 : ¬cond0_1 i) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = peak xo9 x0 x1 (wts x2 x3) (wts x5 x6) x4 x7 := by
  have raw : out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = VO0_9.read (Elt F) (VO0_9.writes (Elt F) VO0_9.junk [(⟨(Rect.unit (s := S1152x128) ![0, 0] S1152x128.size inb_S1152x128_S1152x128_0_0), peak (View.ld (Val := Elt F) (e' := .f32) (arg10.view.read (Elt F) (harg10.unread xo9)) (Rect.unit (s := S1152x128) ![0, 0] S1152x128.size inb_S1152x128_S1152x128_0_0)) (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x128 .f32)]) := by
    sl_kernel_rfl
  rw [raw, ld_unread harg1, ld_unread harg2, harg3.read_unread, harg4.read_unread, harg5.read_unread, harg6.read_unread,
    harg7.read_unread, harg8.read_unread, readCov_stripes, readCov_stripes, View.read_writes_junk_eq_canon, ld_unread harg10]
  exact View.canon_cons_unit_lit (S := S1152x128) _ _ _ two_zero

/-- The activation block that the last point leaves. -/
theorem out_C_8 (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = actBlock x0 x1 (wts x2 x3) (wts x5 x6) x4 x7 := by
  have raw : out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = VO0_8.read (Elt F) (VO0_8.writes (Elt F) VO0_8.junk [(⟨Rect.unit (s := S1152x256) ![0, 128] S1152x128.size inb_S1152x256_S1152x128_0_128, half1 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x256 .f32),
        ⟨Rect.unit (s := S1152x256) ![0, 0] S1152x128.size inb_S1152x256_S1152x128_0_0, half0 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩]) := by
    sl_kernel_rfl
  rw [raw, ld_unread harg1, ld_unread harg2, harg3.read_unread, harg4.read_unread, harg5.read_unread, harg6.read_unread,
    harg7.read_unread, harg8.read_unread, readCov_stripes, readCov_stripes, View.read_writes_junk_eq_canon]
  rfl

/-- The token scales that the last point leaves. -/
theorem out_C_9 (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = k0_pay2 (peak xo9 x0 x1 (wts x2 x3) (wts x5 x6) x4 x7) := by
  have raw : out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xo9
      = VO0_9.read (Elt F) (VO0_9.writes (Elt F) VO0_9.junk [(⟨(Rect.unit (s := S1152x128) ![0, 0] S1152x128.size inb_S1152x128_S1152x128_0_0), k0_pay2 (arg10.view.readCov [(⟨(Rect.unit (s := S1152x128) ![0, 0] S1152x128.size inb_S1152x128_S1152x128_0_0), peak (View.ld (Val := Elt F) (e' := .f32) (arg10.view.read (Elt F) (harg10.unread xo9)) (Rect.unit (s := S1152x128) ![0, 0] S1152x128.size inb_S1152x128_S1152x128_0_0)) (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x128 .f32)] (Rect.unit (s := S1152x128) ![0, 0] S1152x128.size inb_S1152x128_S1152x128_0_0).toLoadRect)⟩ : View.Piece (Elt F) S1152x128 .f32), (⟨(Rect.unit (s := S1152x128) ![0, 0] S1152x128.size inb_S1152x128_S1152x128_0_0), peak (View.ld (Val := Elt F) (e' := .f32) (arg10.view.read (Elt F) (harg10.unread xo9)) (Rect.unit (s := S1152x128) ![0, 0] S1152x128.size inb_S1152x128_S1152x128_0_0)) (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg11.view.readCov (stripes (arg3.view.read (Elt F) (harg3.unread x2)) (arg4.view.read (Elt F) (harg4.unread x3))) (Rect.unit (s := S256x4096) ![0, 0] S256x4096.size inb_S256x4096_S256x4096_0_0).toLoadRect) (arg12.view.readCov (stripes (arg6.view.read (Elt F) (harg6.unread x5)) (arg7.view.read (Elt F) (harg7.unread x6))) (Rect.unit (s := S256x4096) ![0, 0] S256x4096.size inb_S256x4096_S256x4096_0_0).toLoadRect) (arg5.view.read (Elt F) (harg5.unread x4)) (arg8.view.read (Elt F) (harg8.unread x7))⟩ : View.Piece (Elt F) S1152x128 .f32)]) := by
    sl_kernel_rfl
  rw [raw, ld_unread harg1, ld_unread harg2, harg3.read_unread, harg4.read_unread, harg5.read_unread, harg6.read_unread,
    harg7.read_unread, harg8.read_unread, readCov_stripes, readCov_stripes, View.read_writes_junk_eq_canon, ld_unread harg10]
  rw [View.readCov_unit_lit (S := S1152x128) _ _ _ two_zero]
  exact View.canon_cons_unit_lit (S := S1152x128) _ _ _ two_zero

end Cert.GateUpTile
-- ==== Proof.Own.Spec.lean ====
/- The gate and up product over the extended reals: what both programs compute, as functions of the arguments. -/
module

public import proofs.«01_k».proof.Proof.Own.Bits
public import Idealize.ShloMosaic.Lib.Pointwise

@[expose] public section

set_option maxRecDepth 16384

noncomputable section

namespace Cert.Sparse

open Idealize.ShloMosaic

/-- The value of a weight byte. -/
def dec (b : BitVec 8) : EReal := Ideal.ofBits .fp8e4m3 b

/-- The byte of a packed weight row set at slot `j` of group `g` of row `n`. -/
def wByte {R : Nat} (vals : (⟨2, ![R, 2048]⟩ : Shape).Idx → BitVec 8) (mt : (⟨2, ![R, 256]⟩ : Shape).Idx → BitVec 16)
    (n : Fin R) (g : Fin 1024) (j : Fin 4) : BitVec 8 :=
  plane (BitVec.ofNat 32 j.val) (nibble (mt (ix2 n ⟨g.val / 4, by omega⟩)) (g.val % 4))
    (vals (ix2 n ⟨2 * g.val, by omega⟩)) (vals (ix2 n ⟨2 * g.val + 1, by omega⟩))

/-- Every metadata nibble has its two indices in increasing order. -/
def AllOrdered {R K : Nat} (mt : (⟨2, ![R, K]⟩ : Shape).Idx → BitVec 16) : Prop :=
  ∀ (i : (⟨2, ![R, K]⟩ : Shape).Idx) (t : Fin 4), Ordered (nibble (mt i) t.val)

/-- The group of a channel of the stored order. -/
def grp (k : Fin 4096) : Fin 1024 := ⟨256 * (k.val / 1024) + k.val % 256, by omega⟩
/-- The slot of a channel of the stored order. -/
def slot (k : Fin 4096) : Fin 4 := ⟨k.val % 1024 / 256, by omega⟩

/-- The channels of the stored order are the pairs of a slot and a group. -/
def chanEquiv : Fin 4096 ≃ Fin 4 × Fin 1024 where
  toFun k := (slot k, grp k)
  invFun p := ⟨1024 * (p.2.val / 256) + 256 * p.1.val + p.2.val % 256, by omega⟩
  left_inv k := by
    apply Fin.ext
    show 1024 * ((256 * (k.val / 1024) + k.val % 256) / 256) + 256 * (k.val % 1024 / 256) + (256 * (k.val / 1024) + k.val % 256) % 256 = k.val
    omega
  right_inv p := by
    obtain ⟨⟨j, hj⟩, ⟨g, hg⟩⟩ := p
    refine Prod.ext (Fin.ext ?_) (Fin.ext ?_)
    · show (1024 * (g / 256) + 256 * j + g % 256) % 1024 / 256 = j
      omega
    · show 256 * ((1024 * (g / 256) + 256 * j + g % 256) / 1024) + (1024 * (g / 256) + 256 * j + g % 256) % 256 = g
      omega

/-- The product of a row of codes with one slot of a weight row. -/
def slotDot (x : Fin 1024 → EReal) (b : Fin 1024 → BitVec 8) : EReal := ∑ g, x g * dec (b g)

/-- The product of a row of codes with a whole weight row: the four slots one after another. -/
def sparseDot (x : Fin 4 → Fin 1024 → EReal) (b : Fin 1024 → Fin 4 → BitVec 8) : EReal :=
  ((slotDot (x 0) (fun g => b g 0) + slotDot (x 1) (fun g => b g 1)) + slotDot (x 2) (fun g => b g 2)) + slotDot (x 3) (fun g => b g 3)

/-- The sum over the channels of the stored order is the sum over the slots of the sums over the groups. -/
theorem sum_chan (x : Fin 4 → Fin 1024 → EReal) (b : Fin 1024 → Fin 4 → BitVec 8) :
    ∑ k : Fin 4096, x (slot k) (grp k) * dec (b (grp k) (slot k)) = sparseDot x b := by
  refine (Fintype.sum_equiv chanEquiv _ (fun p : Fin 4 × Fin 1024 => x p.1 p.2 * dec (b p.2 p.1)) (fun k => rfl)).trans ?_
  rw [Fintype.sum_prod_type, Fin.sum_univ_four]
  rfl

/-- `silu(gate) * up` of one element, from the two products, the row's scale and the two weight rows' scales. -/
def gateUp (g u s gs us : EReal) : EReal := (g * s * gs) * Ideal.logistic (g * s * gs) * (u * s * us)

/-- The codes of a row at a slot and a group. -/
def codeAt {M : Nat} (c : (⟨2, ![M, 4096]⟩ : Shape).Idx → EReal) (r : Fin M) (j : Fin 4) (g : Fin 1024) : EReal :=
  c (ix2 r ⟨4 * g.val + j.val, by omega⟩)

/-- The activation at row `r`, column `n`, from codes, row scales, packed values, metadata and weight scales. -/
def act (c : (⟨2, ![1152, 4096]⟩ : Shape).Idx → EReal) (s : (⟨2, ![1152, 1]⟩ : Shape).Idx → EReal)
    (vals : (⟨2, ![28672, 2048]⟩ : Shape).Idx → BitVec 8) (mt : (⟨2, ![28672, 256]⟩ : Shape).Idx → BitVec 16)
    (sc : (⟨1, ![28672]⟩ : Shape).Idx → EReal) (r : Fin 1152) (n : Fin 14336) : EReal :=
  gateUp (sparseDot (codeAt c r) (wByte vals mt ⟨n.val, by omega⟩)) (sparseDot (codeAt c r) (wByte vals mt ⟨14336 + n.val, by omega⟩))
    (s (ix2 r 0)) (sc (ix1 ⟨n.val, by omega⟩)) (sc (ix1 ⟨14336 + n.val, by omega⟩))

/-- The absolute value. -/
def mag (x : EReal) : EReal := max x (-x)

theorem mag_nonneg (x : EReal) : 0 ≤ mag x := by
  unfold mag
  rcases le_total 0 x with h | h
  · exact le_max_of_le_left h
  · exact le_max_of_le_right (by simpa using EReal.neg_le_neg_iff.2 h)

/-- The scale of a row from its largest magnitude. -/
def scaleOf (p : EReal) : EReal := if p = 0 then 1 else Ideal.div p (Ideal.ofBits .f32 0x43E00000#32)

/-- The largest magnitude of a family. -/
def top {n : Nat} (f : Fin n → EReal) : EReal := Finset.univ.sup fun i => mag (f i)

theorem ofBits_neg_inf : Ideal.ofBits .f32 0xFF800000#32 = ⊥ := by simp [Ideal.ofBits, Ideal.ieee]

theorem fold_max_bot {n : Nat} (f : Fin n → EReal) :
    (Finset.univ : Finset (Fin n)).fold max (Ideal.ofBits .f32 0xFF800000#32) f = Finset.univ.sup f := by
  rw [ofBits_neg_inf]; rfl

end Cert.Sparse
-- ==== Proof.Own.Weights.lean ====
/- The expanded weight tile at an index: the byte that the metadata nibble of the channel's group selects. -/
module

public import proofs.«01_k».proof.Proof.Own.Tile
public import proofs.«01_k».proof.Proof.Own.Spec

@[expose] public section

set_option maxRecDepth 16384

noncomputable section

namespace Cert.GateUpTile

open Cert.GateUpIdeal Cert.GateUpIdeal.Gen Cert.Sparse
open Idealize.ShloMosaic hiding ix2
open Idealize.ShloMosaic.TcCoe Idealize.ShloMosaic.ValueIdx Idealize.SL.Sem

variable {F : FTy → Type} [FloatOps F]

theorem mem_order (k : Fin 4 × Fin 2 × Fin 4) : k ∈ order.reverse := by
  revert k; decide +kernel

theorem kept_ld (vals : Vec F S256x2048 .i8) (q : Fin 4) (h : Fin 2) (n : Fin 256) (l : Fin 128) (e : Fin 2) :
    kept (View.ld (Val := Elt F) (e' := .i8) vals (Rect.unit (s := S256x2048) ![0, 512 * q.val + 256 * h.val] S256x128.size (inbX q h)))
      (View.ld (Val := Elt F) (e' := .i8) vals (Rect.unit (s := S256x2048) ![0, 512 * q.val + 256 * h.val + 128] S256x128.size (inbY q h)))
      n l e = (vals (ix2 n ⟨2 * (256 * q.val + 128 * h.val + l.val) + e.val, by omega⟩) : BitVec 8) := by
  unfold kept
  by_cases hl : l.val < 64
  · rw [dif_pos hl]
    refine View.ld_unit_apply_of vals _ _ _ _ (ix2 n ⟨2 * (256 * q.val + 128 * h.val + l.val) + e.val, by omega⟩) ?_
    refine Fin.forall_fin_two.2 ⟨?_, ?_⟩
    · show n.val = 0 + n.val; omega
    · show 2 * (256 * q.val + 128 * h.val + l.val) + e.val = 512 * q.val + 256 * h.val + (2 * l.val + e.val); omega
  · rw [dif_neg hl]
    refine View.ld_unit_apply_of vals _ _ _ _ (ix2 n ⟨2 * (256 * q.val + 128 * h.val + l.val) + e.val, by omega⟩) ?_
    refine Fin.forall_fin_two.2 ⟨?_, ?_⟩
    · show n.val = 0 + n.val; omega
    · show 2 * (256 * q.val + 128 * h.val + l.val) + e.val = 512 * q.val + 256 * h.val + 128 + (2 * (l.val - 64) + e.val); omega

theorem stripe_val (vals : Vec F S256x2048 .i8) (mt : Vec F S256x256 .i16) (ho : AllOrdered mt) (q : Fin 4) (h : Fin 2) (j : Fin 4)
    (n : Fin 256) (l : Fin 128) :
    (stripe vals mt (q, h, j)).2 (ix2 n l)
      = FloatOps.ofBits .fp8e4m3 (wByte vals mt n ⟨256 * q.val + 128 * h.val + l.val, by omega⟩ j) := by
  have hq := q.isLt
  have hh := h.isLt
  have hl := l.isLt
  show stripeV (F := F) (Fin.ofNat 2 q.val) h j _ _ _ (ix2 n l) = _
  have em : View.ld (Val := Elt F) (e' := .i16) mt (Rect.unit (s := S256x256) ![0, 128 * (q.val / 2)] S256x128.size (inbM q))
      (ix2 n ⟨64 * (q.val % 2) + 32 * h.val + l.val / 4, by omega⟩)
      = mt (ix2 n ⟨(256 * q.val + 128 * h.val + l.val) / 4, by omega⟩) := by
    refine View.ld_unit_apply_of mt _ _ _ _ _ (Fin.forall_fin_two.2 ⟨?_, ?_⟩)
    · show n.val = 0 + n.val; omega
    · show (256 * q.val + 128 * h.val + l.val) / 4 = 128 * (q.val / 2) + (64 * (q.val % 2) + 32 * h.val + l.val / 4); omega
  have et : (256 * q.val + 128 * h.val + l.val) % 4 = l.val % 4 := by omega
  refine (stripeV_apply (F := F) (Fin.ofNat 2 q.val) h j _ _ _ n l ⟨64 * (q.val % 2) + 32 * h.val + l.val / 4, by omega⟩ rfl
    (by rw [em]; exact ho _ ⟨l.val % 4, by omega⟩)).trans ?_
  rw [em, kept_ld (F := F), kept_ld (F := F)]
  unfold wByte
  dsimp only
  rw [et]
  rfl

theorem stripe_emb (vals : Vec F S256x2048 .i8) (mt : Vec F S256x256 .i16) (q : Fin 4) (h : Fin 2) (j : Fin 4)
    (n : Fin 256) (l : Fin 128) (k : Fin 4096) (hk : k.val = 1024 * q.val + 256 * j.val + 128 * h.val + l.val) :
    (stripe vals mt (q, h, j)).1.emb (ix2 n l) = ix2 n k := by
  funext a
  match a with
  | ⟨0, _⟩ => exact Fin.ext (by show 0 + 1 * n.val = n.val; omega)
  | ⟨1, _⟩ => exact Fin.ext (by show 1024 * q.val + 256 * j.val + 128 * h.val + 1 * l.val = k.val; omega)

/-- The weight tile at a channel. -/
theorem wts_apply (vals : Vec F S256x2048 .i8) (mt : Vec F S256x256 .i16) (ho : AllOrdered mt) (n : Fin 256) (k : Fin 4096) :
    wts vals mt (ix2 n k) = FloatOps.ofBits .fp8e4m3 (wByte vals mt n (grp k) (slot k)) := by
  refine View.canon_apply_of_pieces (Val := Elt F) (S := S256x4096) (e := .fp8e4m3)
    (fun y => FloatOps.ofBits .fp8e4m3 (wByte vals mt (y 0) (grp (y 1)) (slot (y 1)))) (stripes vals mt) ?_ (ix2 n k) ?_
  · intro p hp x
    obtain ⟨⟨q, h, j⟩, -, rfl⟩ := List.mem_map.1 hp
    obtain ⟨n, l, rfl⟩ : ∃ (n : Fin 256) (l : Fin 128), x = ix2 n l := ⟨x 0, x 1, by
      funext a; match a with | ⟨0, _⟩ => rfl | ⟨1, _⟩ => rfl⟩
    have hj := j.isLt
    have hq := q.isLt
    have hh := h.isLt
    have hl := l.isLt
    have eg : grp ⟨1024 * q.val + 256 * j.val + 128 * h.val + l.val, by omega⟩ = ⟨256 * q.val + 128 * h.val + l.val, by omega⟩ :=
      Fin.ext (by show 256 * ((1024 * q.val + 256 * j.val + 128 * h.val + l.val) / 1024) + (1024 * q.val + 256 * j.val + 128 * h.val + l.val) % 256 = 256 * q.val + 128 * h.val + l.val; omega)
    have es : slot ⟨1024 * q.val + 256 * j.val + 128 * h.val + l.val, by omega⟩ = j :=
      Fin.ext (by show (1024 * q.val + 256 * j.val + 128 * h.val + l.val) % 1024 / 256 = j.val; omega)
    refine (stripe_val vals mt ho q h j n l).trans (Eq.symm ?_)
    refine (congrArg (fun y : S256x4096.Idx => (FloatOps.ofBits .fp8e4m3 (wByte vals mt (y 0) (grp (y 1)) (slot (y 1))) : F .fp8e4m3))
      (stripe_emb vals mt q h j n l ⟨1024 * q.val + 256 * j.val + 128 * h.val + l.val, by omega⟩ rfl)).trans ?_
    show FloatOps.ofBits .fp8e4m3 (wByte vals mt n (grp ⟨1024 * q.val + 256 * j.val + 128 * h.val + l.val, by omega⟩) (slot ⟨1024 * q.val + 256 * j.val + 128 * h.val + l.val, by omega⟩)) = _
    rw [eg, es]
  · have hk := k.isLt
    refine ⟨stripe vals mt (⟨k.val / 1024, by omega⟩, ⟨k.val % 256 / 128, by omega⟩, ⟨k.val % 1024 / 256, by omega⟩),
      List.mem_map.2 ⟨_, mem_order _, rfl⟩, ?_⟩
    rw [← stripe_emb vals mt ⟨k.val / 1024, by omega⟩ ⟨k.val % 256 / 128, by omega⟩ ⟨k.val % 1024 / 256, by omega⟩ n
      ⟨k.val % 128, by omega⟩ k (by dsimp only; omega)]
    exact LoadRect.idx_mem _ _

end Cert.GateUpTile
-- ==== Proof.Own.Block.lean ====
/- The blocks of the gate and up kernel over the extended reals, read at an index. -/
module

public import proofs.«01_k».proof.Proof.Own.Weights
public import Idealize.ShloMosaic.Lib.Pointwise

@[expose] public section

set_option maxRecDepth 16384

noncomputable section

namespace Cert.GateUpTile

open Cert.GateUpIdeal Cert.GateUpIdeal.Gen Cert.Sparse
open Idealize.ShloMosaic Idealize.ShloMosaic.TcCoe Idealize.SL.Sem

/-- A row of codes times a row of the expanded weight tile. -/
def rowDot (a : Vec Ideal S1152x4096 .fp8e4m3) (w : Vec Ideal S256x4096 .fp8e4m3) (r : Fin 1152) (n : Fin 256) : EReal :=
  ∑ k : Fin 4096, a (ix2 r k) * w (ix2 n k)

theorem pay388_apply (a : Vec Ideal S1152x4096 .fp8e4m3) (w : Vec Ideal S256x4096 .fp8e4m3) (r : Fin 1152) (n : Fin 256) :
    k0_pay388 a w (ix2 r n) = rowDot a w r n := by
  unfold k0_pay388 rowDot
  pointwise

theorem pay393_apply (p : FVec Ideal S1152x256 .f32) (a : FVec Ideal S1152x4096 .fp8e4m3) (w : Vec Ideal S256x4096 .fp8e4m3)
    (sa : Vec Ideal S1152x128 .f32) (gs us : Vec Ideal S1x128 .f32) (r : Fin 1152) (l : Fin 128) :
    k0_pay393 p a w (constant S1152x256 .f32 0x00000000#32) sa gs us (ix2 r l)
      = gateUp (p (ix2 r ⟨l.val, by omega⟩)) (rowDot a w r ⟨l.val, by omega⟩) (sa (ix2 r l)) (gs (ix2 0 l)) (us (ix2 0 l)) := by
  unfold k0_pay393 k0_pay391 k0_pay390 rowDot gateUp
  pointwise

theorem pay395_apply (p : FVec Ideal S1152x256 .f32) (a : FVec Ideal S1152x4096 .fp8e4m3) (w : Vec Ideal S256x4096 .fp8e4m3)
    (sa : Vec Ideal S1152x128 .f32) (gs us : Vec Ideal S1x128 .f32) (r : Fin 1152) (l : Fin 128) :
    k0_pay395 p a w (constant S1152x256 .f32 0x00000000#32) sa gs us (ix2 r l)
      = gateUp (p (ix2 r ⟨128 + l.val, by omega⟩)) (rowDot a w r ⟨128 + l.val, by omega⟩) (sa (ix2 r l)) (gs (ix2 0 l)) (us (ix2 0 l)) := by
  unfold k0_pay395 k0_pay391 k0_pay390 rowDot gateUp
  pointwise

theorem pay389_eq (a : Vec Ideal S1152x4096 .fp8e4m3) : k0_pay389 a = a := by
  unfold k0_pay389; exact shapeCast_self _ _

/-- The activation block's element at row `r`, column `n`. -/
def blkAct (a : Vec Ideal S1152x4096 .fp8e4m3) (s : Fin 1152 → EReal) (wg wu : Vec Ideal S256x4096 .fp8e4m3) (gs us : Vec Ideal S1x256 .f32)
    (r : Fin 1152) (n : Fin 256) : EReal :=
  gateUp (rowDot a wg r n) (rowDot a wu r n) (s r) (gs (ix2 0 n)) (us (ix2 0 n))

variable (a : Vec Ideal S1152x4096 .fp8e4m3) (sa : Vec Ideal S1152x128 .f32) (s : Fin 1152 → EReal)
  (wg wu : Vec Ideal S256x4096 .fp8e4m3) (gs us : Vec Ideal S1x256 .f32)

theorem ld_lo (v : Vec Ideal S1x256 .f32) (l : Fin 128) :
    View.ld (Val := Elt Ideal) (e' := .f32) v (Rect.unit (s := S1x256) ![0, 0] S1x128.size inb_S1x256_S1x128_0_0) (ix2 0 l) = v (ix2 0 ⟨l.val, by omega⟩) := by
  refine View.ld_unit_apply_of v _ _ _ _ (ix2 0 ⟨l.val, by omega⟩) ?_
  refine Fin.forall_fin_two.2 ⟨?_, ?_⟩
  · rfl
  · show l.val = 0 + l.val; omega

theorem ld_hi (v : Vec Ideal S1x256 .f32) (l : Fin 128) :
    View.ld (Val := Elt Ideal) (e' := .f32) v (Rect.unit (s := S1x256) ![0, 128] S1x128.size inb_S1x256_S1x128_0_128) (ix2 0 l) = v (ix2 0 ⟨128 + l.val, by omega⟩) := by
  refine View.ld_unit_apply_of v _ _ _ _ (ix2 0 ⟨128 + l.val, by omega⟩) ?_
  refine Fin.forall_fin_two.2 ⟨?_, ?_⟩
  · rfl
  · rfl

theorem half0_apply (hs : ∀ r l, sa (ix2 r l) = s r) (r : Fin 1152) (l : Fin 128) :
    half0 a sa wg wu gs us (ix2 r l) = blkAct a s wg wu gs us r ⟨l.val, by omega⟩ := by
  unfold half0 blkAct
  rw [pay393_apply, pay388_apply, pay389_eq, hs, ld_lo, ld_lo]

theorem half1_apply (hs : ∀ r l, sa (ix2 r l) = s r) (r : Fin 1152) (l : Fin 128) :
    half1 a sa wg wu gs us (ix2 r l) = blkAct a s wg wu gs us r ⟨128 + l.val, by omega⟩ := by
  unfold half1 blkAct
  rw [pay395_apply, pay388_apply, pay389_eq, hs, ld_hi, ld_hi]

theorem peak_apply (p : Vec Ideal S1152x128 .f32) (hs : ∀ r l, sa (ix2 r l) = s r) (r : Fin 1152) (l : Fin 128) :
    peak p a sa wg wu gs us (ix2 r l)
      = max (max (p (ix2 r l)) (mag (blkAct a s wg wu gs us r ⟨l.val, by omega⟩))) (mag (blkAct a s wg wu gs us r ⟨128 + l.val, by omega⟩)) := by
  have h : peak p a sa wg wu gs us (ix2 r l)
      = max (max (shapeCast S1152x128 p shapeCasts_S1152x128_S1152x128 (ix2 r l)) (mag (half0 a sa wg wu gs us (ix2 r l)))) (mag (half1 a sa wg wu gs us (ix2 r l))) := rfl
  rw [h, half0_apply a sa s wg wu gs us hs, half1_apply a sa s wg wu gs us hs, shapeCast_self]

theorem actBlock_apply (hs : ∀ r l, sa (ix2 r l) = s r) (r : Fin 1152) (n : Fin 256) :
    actBlock a sa wg wu gs us (ix2 r n) = blkAct a s wg wu gs us r n := by
  unfold actBlock
  refine View.canon_apply_of_pieces (Val := Elt Ideal) (S := S1152x256) (e := .f32)
    (fun i : S1152x256.Idx => blkAct a s wg wu gs us (i 0) (i 1)) _ ?_ (ix2 r n) ?_
  · intro p hp x
    rcases List.mem_cons.1 hp with rfl | hp
    · obtain ⟨r', l, rfl⟩ : ∃ (r' : Fin 1152) (l : Fin 128), x = ix2 r' l := ⟨x 0, x 1, by
        funext a; match a with | ⟨0, _⟩ => rfl | ⟨1, _⟩ => rfl⟩
      refine (half1_apply a sa s wg wu gs us hs r' l).trans ?_
      refine congrArg₂ (blkAct a s wg wu gs us) (Fin.ext ?_) (Fin.ext ?_)
      · show r'.val = 0 + 1 * r'.val; omega
      · show 128 + l.val = 128 + 1 * l.val; omega
    · rcases List.mem_singleton.1 hp with rfl
      obtain ⟨r', l, rfl⟩ : ∃ (r' : Fin 1152) (l : Fin 128), x = ix2 r' l := ⟨x 0, x 1, by
        funext a; match a with | ⟨0, _⟩ => rfl | ⟨1, _⟩ => rfl⟩
      refine (half0_apply a sa s wg wu gs us hs r' l).trans ?_
      refine congrArg₂ (blkAct a s wg wu gs us) (Fin.ext ?_) (Fin.ext ?_)
      · show r'.val = 0 + 1 * r'.val; omega
      · show l.val = 0 + 1 * l.val; omega
  · have hr := r.isLt
    have hn := n.isLt
    by_cases h : n.val < 128
    · refine ⟨_, List.mem_cons_of_mem _ (List.mem_singleton.2 rfl), (Rect.mem_set_unit (inb := inb_S1152x256_S1152x128_0_0)).2 (Fin.forall_fin_two.2 ⟨⟨?_, ?_⟩, ⟨?_, ?_⟩⟩)⟩
      · show 0 ≤ r.val; omega
      · show r.val < 0 + 1152; omega
      · show 0 ≤ n.val; omega
      · show n.val < 0 + 128; omega
    · refine ⟨_, List.mem_cons_self, (Rect.mem_set_unit (inb := inb_S1152x256_S1152x128_0_128)).2 (Fin.forall_fin_two.2 ⟨⟨?_, ?_⟩, ⟨?_, ?_⟩⟩)⟩
      · show 0 ≤ r.val; omega
      · show r.val < 0 + 1152; omega
      · show 128 ≤ n.val; omega
      · show n.val < 128 + 128; omega

theorem pay392_apply (i : S1152x128.Idx) : (k0_pay392 : FVec Ideal S1152x128 .f32) i = 0 := by
  unfold k0_pay392
  pointwise

/-- The scale of a row from the row's lanes. -/
theorem pay2_apply (x : Vec Ideal S1152x128 .f32) (r : Fin 1152) (l : Fin 128) :
    k0_pay2 x (ix2 r l) = scaleOf (Finset.univ.sup fun l' : Fin 128 => (x (ix2 r l') : EReal)) := by
  have h : k0_pay2 x (ix2 r l) = scaleOf ((Finset.univ : Finset (Fin 128)).fold max (Ideal.ofBits .f32 0xFF800000#32) fun l' => x (ix2 r l')) := by
    unfold k0_pay2 scaleOf
    pointwise
  rw [h, fold_max_bot]

end Cert.GateUpTile
-- ==== Proof.Own.Inputs.lean ====
/- The blocks that a grid point of the gate and up kernel stages, read at an index of the arguments. -/
module

public import proofs.«01_k».proof.Proof.Own.Block

@[expose] public section

set_option maxRecDepth 16384

noncomputable section

namespace Cert.GateUpTile

open Cert.GateUpIdeal Cert.GateUpIdeal.Gen Cert.Sparse
open Idealize.ShloMosaic Idealize.ShloMosaic.TcCoe Idealize.SL.Sem

theorem idx0 : ∀ t : Fin grid0.N, cc0_transform_0 (grid0.coords t) 0 = 0 ∧ cc0_transform_0 (grid0.coords t) 1 = 0 := by decide +kernel
theorem idx1 : ∀ t : Fin grid0.N, cc0_transform_1 (grid0.coords t) 0 = 0 ∧ cc0_transform_1 (grid0.coords t) 1 = 0 := by decide +kernel
theorem idx2 : ∀ t : Fin grid0.N, cc0_transform_2 (grid0.coords t) 0 = t.val ∧ cc0_transform_2 (grid0.coords t) 1 = 0 := by decide +kernel
theorem idx3 : ∀ t : Fin grid0.N, cc0_transform_3 (grid0.coords t) 0 = t.val ∧ cc0_transform_3 (grid0.coords t) 1 = 0 := by decide +kernel
theorem idx4 : ∀ t : Fin grid0.N, cc0_transform_4 (grid0.coords t) 0 = 0 ∧ cc0_transform_4 (grid0.coords t) 1 = t.val := by decide +kernel
theorem idx5 : ∀ t : Fin grid0.N, cc0_transform_5 (grid0.coords t) 0 = 56 + t.val ∧ cc0_transform_5 (grid0.coords t) 1 = 0 := by decide +kernel
theorem idx6 : ∀ t : Fin grid0.N, cc0_transform_6 (grid0.coords t) 0 = 56 + t.val ∧ cc0_transform_6 (grid0.coords t) 1 = 0 := by decide +kernel
theorem idx7 : ∀ t : Fin grid0.N, cc0_transform_7 (grid0.coords t) 0 = 0 ∧ cc0_transform_7 (grid0.coords t) 1 = 56 + t.val := by decide +kernel
theorem idx8 : ∀ t : Fin grid0.N, cc0_transform_8 (grid0.coords t) 0 = 0 ∧ cc0_transform_8 (grid0.coords t) 1 = t.val := by decide +kernel
theorem idx9 : ∀ t : Fin grid0.N, cc0_transform_9 (grid0.coords t) 0 = 0 ∧ cc0_transform_9 (grid0.coords t) 1 = 0 := by decide +kernel

variable (m : (ℓ : Loc nD τ sig) → Buf (Elt Ideal) ℓ) (c : Dev nD) (t : Fin cfg0.N)

theorem tlt : t.val < 56 := t.isLt.trans_eq N_0

/-! ## The host operations before the call -/

theorem V_v2 (r : Fin 1152) (k : Fin 4096) :
    (V m c main_v2 : S1152x4096.Idx → EReal) (ix2 r k) = codeAt (m ((c : Thread nD τ).loc main_arg0)) r (slot k) (grp k) := by
  have h : (V m c main_v2 : S1152x4096.Idx → EReal) = shapeCast S1152x4096 (transpose S1152x4x4x256 [0, 1, 3, 2]
      (shapeCast S1152x4x256x4 (m ((c : Thread nD τ).loc main_arg0)) shapeCasts_S1152x4096_S1152x4x256x4)
      transposes_S1152x4x256x4_S1152x4x4x256_0_1_3_2) shapeCasts_S1152x4x4x256_S1152x4096 := by
    dsimp only [V, hostOps0]; after_results; rfl
  have hk := k.isLt
  rw [h]
  refine (shapeCast_apply _ _ _ (ix4 r ⟨k.val / 1024, by omega⟩ (slot k) ⟨k.val % 256, by omega⟩) ?_).trans ?_
  · rw [Shape.rowMajor_val_two, Shape.rowMajor_val_four]
    show ((r.val * 4 + k.val / 1024) * 4 + k.val % 1024 / 256) * 256 + k.val % 256 = r.val * 4096 + k.val
    omega
  refine (shapeCast_apply _ _ _ (ix2 r ⟨4 * (256 * (k.val / 1024) + k.val % 256) + k.val % 1024 / 256, by omega⟩) ?_).trans ?_
  · rw [Shape.rowMajor_val_two, Shape.rowMajor_val_four]
    show r.val * 4096 + (4 * (256 * (k.val / 1024) + k.val % 256) + k.val % 1024 / 256)
      = ((r.val * 4 + k.val / 1024) * 256 + k.val % 256) * 4 + k.val % 1024 / 256
    omega
  rfl

theorem V_v3 (r : Fin 1152) (l : Fin 128) :
    (V m c main_v3 : S1152x128.Idx → EReal) (ix2 r l) = (m ((c : Thread nD τ).loc main_arg1) : S1152x1.Idx → EReal) (ix2 r 0) := by
  have h : (V m c main_v3 : S1152x128.Idx → EReal) = broadcastInDim S1152x128 ![0, 1] bcast_S1152x1_S1152x128_0_1 (m ((c : Thread nD τ).loc main_arg1)) := by
    dsimp only [V, hostOps0]; after_results
  rw [h]
  pointwise

theorem V_v4 (n : Fin 28672) :
    (V m c main_v4 : S1x28672.Idx → EReal) (ix2 0 n) = (m ((c : Thread nD τ).loc main_arg4) : S28672.Idx → EReal) (ix1 n) := by
  have h : (V m c main_v4 : S1x28672.Idx → EReal) = shapeCast S1x28672 (m ((c : Thread nD τ).loc main_arg4)) shapeCasts_S28672_S1x28672 := by
    dsimp only [V, hostOps0]; after_results; rfl
  rw [h]
  refine shapeCast_apply _ _ _ (ix1 n) ?_
  rw [Shape.rowMajor_val_two, Shape.rowMajor_val_one]
  show n.val = 0 * 28672 + n.val
  omega

/-! ## The blocks -/

theorem blk0 (r : Fin 1152) (k : Fin 4096) :
    (iblk m c 0 t : S1152x4096.Idx → EReal) (ix2 r k) = codeAt (m ((c : Thread nD τ).loc main_arg0)) r (slot k) (grp k) := by
  rw [← V_v2 m c]
  unfold iblk
  rw [View.read_apply, cast_eq]
  refine congrArg _ (funext (Fin.forall_fin_two.2 ⟨Fin.ext ?_, Fin.ext ?_⟩))
  · show cc0_transform_0 (grid0.coords t) 0 * 1152 + 1 * r.val = r.val
    rw [(idx0 t).1]; omega
  · show cc0_transform_0 (grid0.coords t) 1 * 4096 + 1 * k.val = k.val
    rw [(idx0 t).2]; omega

theorem blk1 (r : Fin 1152) (l : Fin 128) :
    (iblk m c 1 t : S1152x128.Idx → EReal) (ix2 r l) = (m ((c : Thread nD τ).loc main_arg1) : S1152x1.Idx → EReal) (ix2 r 0) := by
  rw [← V_v3 m c r l]
  unfold iblk
  rw [View.read_apply, cast_eq]
  refine congrArg _ (funext (Fin.forall_fin_two.2 ⟨Fin.ext ?_, Fin.ext ?_⟩))
  · show cc0_transform_1 (grid0.coords t) 0 * 1152 + 1 * r.val = r.val
    rw [(idx1 t).1]; omega
  · show cc0_transform_1 (grid0.coords t) 1 * 128 + 1 * l.val = l.val
    rw [(idx1 t).2]; omega

theorem blk2 (n : Fin 256) (k : Fin 2048) :
    (iblk m c 2 t : S256x2048.Idx → BitVec 8) (ix2 n k) = (m ((c : Thread nD τ).loc main_arg2) : S28672x2048.Idx → BitVec 8) (ix2 ⟨256 * t.val + n.val, by have := tlt t; omega⟩ k) := by
  rw [← V_main_arg2 m c]
  unfold iblk
  rw [View.read_apply, cast_eq]
  refine congrArg _ (funext (Fin.forall_fin_two.2 ⟨Fin.ext ?_, Fin.ext ?_⟩))
  · show cc0_transform_2 (grid0.coords t) 0 * 256 + 1 * n.val = 256 * t.val + n.val
    rw [(idx2 t).1]; omega
  · show cc0_transform_2 (grid0.coords t) 1 * 2048 + 1 * k.val = k.val
    rw [(idx2 t).2]; omega

theorem blk3 (n : Fin 256) (k : Fin 256) :
    (iblk m c 3 t : S256x256.Idx → BitVec 16) (ix2 n k) = (m ((c : Thread nD τ).loc main_arg3) : S28672x256.Idx → BitVec 16) (ix2 ⟨256 * t.val + n.val, by have := tlt t; omega⟩ k) := by
  rw [← V_main_arg3 m c]
  unfold iblk
  rw [View.read_apply, cast_eq]
  refine congrArg _ (funext (Fin.forall_fin_two.2 ⟨Fin.ext ?_, Fin.ext ?_⟩))
  · show cc0_transform_3 (grid0.coords t) 0 * 256 + 1 * n.val = 256 * t.val + n.val
    rw [(idx3 t).1]; omega
  · show cc0_transform_3 (grid0.coords t) 1 * 256 + 1 * k.val = k.val
    rw [(idx3 t).2]; omega

theorem blk4 (n : Fin 256) :
    (iblk m c 4 t : S1x256.Idx → EReal) (ix2 0 n) = (m ((c : Thread nD τ).loc main_arg4) : S28672.Idx → EReal) (ix1 ⟨256 * t.val + n.val, by have := tlt t; omega⟩) := by
  rw [← V_v4 m c]
  unfold iblk
  rw [View.read_apply, cast_eq]
  refine congrArg _ (funext (Fin.forall_fin_two.2 ⟨Fin.ext ?_, Fin.ext ?_⟩))
  · show cc0_transform_4 (grid0.coords t) 0 * 1 + 1 * 0 = 0
    rw [(idx4 t).1]
  · show cc0_transform_4 (grid0.coords t) 1 * 256 + 1 * n.val = 256 * t.val + n.val
    rw [(idx4 t).2]; omega

theorem blk5 (n : Fin 256) (k : Fin 2048) :
    (iblk m c 5 t : S256x2048.Idx → BitVec 8) (ix2 n k) = (m ((c : Thread nD τ).loc main_arg2) : S28672x2048.Idx → BitVec 8) (ix2 ⟨14336 + (256 * t.val + n.val), by have := tlt t; omega⟩ k) := by
  rw [← V_main_arg2 m c]
  unfold iblk
  rw [View.read_apply, cast_eq]
  refine congrArg _ (funext (Fin.forall_fin_two.2 ⟨Fin.ext ?_, Fin.ext ?_⟩))
  · show cc0_transform_5 (grid0.coords t) 0 * 256 + 1 * n.val = 14336 + (256 * t.val + n.val)
    rw [(idx5 t).1]; omega
  · show cc0_transform_5 (grid0.coords t) 1 * 2048 + 1 * k.val = k.val
    rw [(idx5 t).2]; omega

theorem blk6 (n : Fin 256) (k : Fin 256) :
    (iblk m c 6 t : S256x256.Idx → BitVec 16) (ix2 n k) = (m ((c : Thread nD τ).loc main_arg3) : S28672x256.Idx → BitVec 16) (ix2 ⟨14336 + (256 * t.val + n.val), by have := tlt t; omega⟩ k) := by
  rw [← V_main_arg3 m c]
  unfold iblk
  rw [View.read_apply, cast_eq]
  refine congrArg _ (funext (Fin.forall_fin_two.2 ⟨Fin.ext ?_, Fin.ext ?_⟩))
  · show cc0_transform_6 (grid0.coords t) 0 * 256 + 1 * n.val = 14336 + (256 * t.val + n.val)
    rw [(idx6 t).1]; omega
  · show cc0_transform_6 (grid0.coords t) 1 * 256 + 1 * k.val = k.val
    rw [(idx6 t).2]; omega

theorem blk7 (n : Fin 256) :
    (iblk m c 7 t : S1x256.Idx → EReal) (ix2 0 n) = (m ((c : Thread nD τ).loc main_arg4) : S28672.Idx → EReal) (ix1 ⟨14336 + (256 * t.val + n.val), by have := tlt t; omega⟩) := by
  rw [← V_v4 m c]
  unfold iblk
  rw [View.read_apply, cast_eq]
  refine congrArg _ (funext (Fin.forall_fin_two.2 ⟨Fin.ext ?_, Fin.ext ?_⟩))
  · show cc0_transform_7 (grid0.coords t) 0 * 1 + 1 * 0 = 0
    rw [(idx7 t).1]
  · show cc0_transform_7 (grid0.coords t) 1 * 256 + 1 * n.val = 14336 + (256 * t.val + n.val)
    rw [(idx7 t).2]; omega

end Cert.GateUpTile
-- ==== Proof.Own.Outs.lean ====
/- What each grid point of the gate and up kernel leaves, as the tile functions of the point's input blocks. -/
module

public import proofs.«01_k».proof.Proof.Own.Tile

@[expose] public section

set_option maxRecDepth 16384

noncomputable section

namespace Cert.GateUpTile

open Cert.GateUpIdeal Cert.GateUpIdeal.Gen Cert.Sparse
open Idealize.ShloMosaic Idealize.ShloMosaic.TcCoe Idealize.SL.Sem

variable {F : FTy → Type} [FloatOps F]
variable (m : (ℓ : Loc nD τ sig) → Buf (Elt F) ℓ) (c : Dev nD) (t : Fin cfg0.N)

/-- The activation block that a point leaves. -/
theorem outs_act : (outsAt0 m c t.val t.isLt).1
    = actBlock (iblk m c 0 t) (iblk m c 1 t) (wts (iblk m c 2 t) (iblk m c 3 t)) (wts (iblk m c 5 t) (iblk m c 6 t)) (iblk m c 4 t) (iblk m c 7 t) := by
  by_cases h0 : t.val % 56 = 0
  · have h1 : ¬t.val % 56 = 55 := by omega
    simp only [outsAt0_A m c t h0 h1, out_A_8]
  · by_cases h1 : t.val % 56 = 55
    · simp only [outsAt0_C m c t h0 h1, out_C_8]
    · simp only [outsAt0_B m c t h0 h1, out_B_8]

/-- The maxima that the first point leaves. -/
theorem outs_first (h0 : t.val % 56 = 0) : (outsAt0 m c t.val t.isLt).2
    = peak k0_pay392 (iblk m c 0 t) (iblk m c 1 t) (wts (iblk m c 2 t) (iblk m c 3 t)) (wts (iblk m c 5 t) (iblk m c 6 t)) (iblk m c 4 t) (iblk m c 7 t) := by
  have h1 : ¬t.val % 56 = 55 := by omega
  simp only [outsAt0_A m c t h0 h1, out_A_9]

/-- The maxima that a middle point leaves, over those of the point before. -/
theorem outs_middle (h0 : ¬t.val % 56 = 0) (h1 : ¬t.val % 56 = 55) : (outsAt0 m c t.val t.isLt).2
    = peak (outsAt0 m c (t.val - 1) (by omega)).2 (iblk m c 0 t) (iblk m c 1 t) (wts (iblk m c 2 t) (iblk m c 3 t)) (wts (iblk m c 5 t) (iblk m c 6 t)) (iblk m c 4 t) (iblk m c 7 t) := by
  simp only [outsAt0_B m c t h0 h1, out_B_9]

/-- The scales that the last point leaves, over the maxima of the point before. -/
theorem outs_last (h0 : ¬t.val % 56 = 0) (h1 : t.val % 56 = 55) : (outsAt0 m c t.val t.isLt).2
    = k0_pay2 (peak (outsAt0 m c (t.val - 1) (by omega)).2 (iblk m c 0 t) (iblk m c 1 t) (wts (iblk m c 2 t) (iblk m c 3 t)) (wts (iblk m c 5 t) (iblk m c 6 t)) (iblk m c 4 t) (iblk m c 7 t)) := by
  simp only [outsAt0_C m c t h0 h1, out_C_9]

end Cert.GateUpTile
-- ==== Proof.Own.Points.lean ====
/- What the gate and up kernel leaves at each grid point, and its two result arrays, as functions of the arguments. -/
module

public import proofs.«01_k».proof.Proof.Own.Inputs
public import proofs.«01_k».proof.Proof.Own.Outs

@[expose] public section

set_option maxRecDepth 16384

noncomputable section

namespace Cert.GateUpTile

open Cert.GateUpIdeal Cert.GateUpIdeal.Gen Cert.Sparse
open Idealize.ShloMosaic Idealize.ShloMosaic.TcCoe Idealize.SL.Sem

/-! ## Running maxima -/

/-- The running maximum of a lane after tile `n`, of the magnitudes `f` by column. -/
def run (f : ℕ → EReal) (l : Fin 128) : ℕ → EReal
  | 0 => max (max 0 (f l.val)) (f (128 + l.val))
  | n + 1 => max (max (run f l n) (f (256 * (n + 1) + l.val))) (f (256 * (n + 1) + (128 + l.val)))

theorem run_mono (f : ℕ → EReal) (l : Fin 128) {a b : ℕ} (h : a ≤ b) : run f l a ≤ run f l b := by
  induction h with
  | refl => exact le_rfl
  | step _ ih => exact ih.trans ((le_max_left _ _).trans (le_max_left _ _))

theorem run_le (f : ℕ → EReal) (l : Fin 128) (T : EReal) (h0 : 0 ≤ T) (hf : ∀ j, f j ≤ T) (n : ℕ) : run f l n ≤ T := by
  induction n with
  | zero => exact max_le (max_le h0 (hf _)) (hf _)
  | succ n ih => exact max_le (max_le ih (hf _)) (hf _)

theorem le_run_lo (f : ℕ → EReal) (l : Fin 128) (n : ℕ) : f (256 * n + l.val) ≤ run f l n := by
  cases n with
  | zero => exact (le_of_eq (congrArg f (by omega))).trans ((le_max_right 0 _).trans (le_max_left _ _))
  | succ n => exact (le_max_right _ _).trans (le_max_left _ _)

theorem le_run_hi (f : ℕ → EReal) (l : Fin 128) (n : ℕ) : f (256 * n + (128 + l.val)) ≤ run f l n := by
  cases n with
  | zero => exact (le_of_eq (congrArg f (by omega))).trans (le_max_right _ _)
  | succ n => exact le_max_right _ _

/-- The magnitudes of a row by column, zero past the row's end. -/
def cols (g : Fin 14336 → EReal) (j : ℕ) : EReal := if h : j < 14336 then mag (g ⟨j, h⟩) else 0

theorem cols_of (g : Fin 14336 → EReal) (j : Fin 14336) : cols g j.val = mag (g j) := dif_pos j.isLt

/-- The largest running maximum over the lanes after the last tile is the row's largest magnitude. -/
theorem sup_run (g : Fin 14336 → EReal) : (Finset.univ.sup fun l : Fin 128 => run (cols g) l 55) = top g := by
  have h0 : 0 ≤ top g := (mag_nonneg (g 0)).trans (Finset.le_sup (f := fun i => mag (g i)) (Finset.mem_univ (0 : Fin 14336)))
  apply le_antisymm
  · refine Finset.sup_le fun l _ => run_le _ l _ h0 (fun j => ?_) 55
    unfold cols
    split
    · exact Finset.le_sup (f := fun i => mag (g i)) (Finset.mem_univ _)
    · exact h0
  · refine Finset.sup_le fun j _ => ?_
    have hj := j.isLt
    refine le_trans ?_ (Finset.le_sup (f := fun l : Fin 128 => run (cols g) l 55) (Finset.mem_univ ⟨j.val % 128, by omega⟩))
    refine le_trans ?_ (run_mono (cols g) _ (show j.val / 256 ≤ 55 by omega))
    rw [← cols_of]
    by_cases h : j.val % 256 < 128
    · refine le_trans (le_of_eq (congrArg (cols g) ?_)) (le_run_lo (cols g) ⟨j.val % 128, by omega⟩ (j.val / 256))
      show j.val = 256 * (j.val / 256) + j.val % 128
      omega
    · refine le_trans (le_of_eq (congrArg (cols g) ?_)) (le_run_hi (cols g) ⟨j.val % 128, by omega⟩ (j.val / 256))
      show j.val = 256 * (j.val / 256) + (128 + j.val % 128)
      omega

/-! ## One grid point -/

variable (m : (ℓ : Loc nD τ sig) → Buf (Elt Ideal) ℓ) (c : Dev nD)

/-- The activation array that the arguments determine. -/
def actOf (r : Fin 1152) (n : Fin 14336) : EReal :=
  act (m ((c : Thread nD τ).loc main_arg0)) (m ((c : Thread nD τ).loc main_arg1)) (m ((c : Thread nD τ).loc main_arg2))
    (m ((c : Thread nD τ).loc main_arg3)) (m ((c : Thread nD τ).loc main_arg4)) r n

/-- The metadata argument's nibbles are all ordered. -/
def MetaOk : Prop := AllOrdered (R := 28672) (K := 256) (m ((c : Thread nD τ).loc main_arg3))

theorem rowDot_eq (a : Vec Ideal S1152x4096 .fp8e4m3) (v : Vec Ideal S256x2048 .i8) (mt : Vec Ideal S256x256 .i16)
    (C : (⟨2, ![1152, 4096]⟩ : Shape).Idx → EReal) (V : (⟨2, ![28672, 2048]⟩ : Shape).Idx → BitVec 8)
    (M : (⟨2, ![28672, 256]⟩ : Shape).Idx → BitVec 16) (ho : AllOrdered M) (r : Fin 1152) (n : Fin 256) (R : Fin 256 → Fin 28672)
    (ha : ∀ k, a (ix2 r k) = codeAt C r (slot k) (grp k)) (hv : ∀ n k, v (ix2 n k) = V (ix2 (R n) k))
    (hm : ∀ n k, mt (ix2 n k) = M (ix2 (R n) k)) :
    rowDot a (wts v mt) r n = sparseDot (codeAt C r) (wByte V M (R n)) := by
  have ho' : AllOrdered (R := 256) (K := 256) mt := by
    intro i t
    have hi : i = ix2 (i 0) (i 1) := by funext a; match a with | ⟨0, _⟩ => rfl | ⟨1, _⟩ => rfl
    rw [hi]
    exact Eq.mp (congrArg (fun b => Ordered (nibble b t.val)) (hm (i 0) (i 1)).symm) (ho _ t)
  unfold rowDot
  rw [← sum_chan]
  refine Finset.sum_congr rfl fun k _ => ?_
  rw [ha]
  refine congrArg _ ((wts_apply v mt ho' n k).trans ?_)
  show dec (wByte v mt n (grp k) (slot k)) = dec (wByte V M (R n) (grp k) (slot k))
  unfold wByte
  rw [hv, hv, hm]

theorem blkAct_eq (ho : MetaOk m c) (t : Fin cfg0.N) (r : Fin 1152) (n : Fin 256) :
    blkAct (iblk m c 0 t) (fun r => (m ((c : Thread nD τ).loc main_arg1) : S1152x1.Idx → EReal) (ix2 r 0))
      (wts (iblk m c 2 t) (iblk m c 3 t)) (wts (iblk m c 5 t) (iblk m c 6 t)) (iblk m c 4 t) (iblk m c 7 t) r n
      = actOf m c r ⟨256 * t.val + n.val, by have := tlt t; omega⟩ := by
  unfold blkAct actOf act
  have e1 := blk4 m c t n
  have e2 := blk7 m c t n
  refine (congrArg₂ (fun x y => gateUp _ _ _ x y) e1 e2).trans ?_
  refine congrArg₂ (fun x y => gateUp x y _ _ _) ?_ ?_
  · exact rowDot_eq _ _ _ _ _ _ ho r n (fun n => ⟨256 * t.val + n.val, by have := tlt t; omega⟩) (fun k => blk0 m c t r k)
      (fun n k => blk2 m c t n k) (fun n k => blk3 m c t n k)
  · exact rowDot_eq _ _ _ _ _ _ ho r n (fun n => ⟨14336 + (256 * t.val + n.val), by have := tlt t; omega⟩) (fun k => blk0 m c t r k)
      (fun n k => blk5 m c t n k) (fun n k => blk6 m c t n k)

/-- The block of activations that a point leaves. -/
theorem out_act (ho : MetaOk m c) (t : Fin cfg0.N) (r : Fin 1152) (n : Fin 256) :
    ((outsAt0 m c t.val t.isLt).1 : S1152x256.Idx → EReal) (ix2 r n) = actOf m c r ⟨256 * t.val + n.val, by have := tlt t; omega⟩ := by
  have e := outs_act m c t
  rw [e, actBlock_apply _ _ _ _ _ _ _ (fun r l => blk1 m c t r l), blkAct_eq m c ho]

/-- One step of the running maxima. -/
theorem peak_step (ho : MetaOk m c) (t : Fin cfg0.N) (p : Vec Ideal S1152x128 .f32) (r : Fin 1152) (l : Fin 128) :
    peak p (iblk m c 0 t) (iblk m c 1 t) (wts (iblk m c 2 t) (iblk m c 3 t)) (wts (iblk m c 5 t) (iblk m c 6 t)) (iblk m c 4 t) (iblk m c 7 t) (ix2 r l)
      = max (max (p (ix2 r l)) (cols (actOf m c r) (256 * t.val + l.val))) (cols (actOf m c r) (256 * t.val + (128 + l.val))) := by
  have ht := tlt t
  rw [peak_apply _ _ _ _ _ _ _ _ (fun r l => blk1 m c t r l), blkAct_eq m c ho, blkAct_eq m c ho,
    ← cols_of (actOf m c r), ← cols_of (actOf m c r)]

/-- The running maxima before the last point. -/
theorem out_peak (ho : MetaOk m c) : ∀ (n : ℕ) (hn : n < cfg0.N), n < 55 → ∀ (r : Fin 1152) (l : Fin 128),
    ((outsAt0 m c n hn).2 : S1152x128.Idx → EReal) (ix2 r l) = run (cols (actOf m c r)) l n := by
  intro n
  induction n with
  | zero =>
    intro hn _ r l
    have e := outs_first m c ⟨0, hn⟩ rfl
    refine (congrFun e (ix2 r l)).trans ?_
    rw [peak_step m c ho, pay392_apply]
    show max (max 0 (cols (actOf m c r) (256 * 0 + l.val))) (cols (actOf m c r) (256 * 0 + (128 + l.val))) = max (max 0 (cols (actOf m c r) l.val)) (cols (actOf m c r) (128 + l.val))
    rw [Nat.mul_zero, Nat.zero_add, Nat.zero_add]
  | succ n ih =>
    intro hn h55 r l
    have e := outs_middle m c ⟨n + 1, hn⟩ (by show ¬(n + 1) % 56 = 0; omega) (by show ¬(n + 1) % 56 = 55; omega)
    refine (congrFun e (ix2 r l)).trans ?_
    rw [peak_step m c ho]
    refine congrArg (fun x => max (max x _) _) (ih (by omega) (by omega) r l)

/-- The scales that the last point leaves. -/
theorem out_scale (ho : MetaOk m c) (n : ℕ) (hn : n + 1 < cfg0.N) (h55 : n + 1 = 55) (r : Fin 1152) (l : Fin 128) :
    ((outsAt0 m c (n + 1) hn).2 : S1152x128.Idx → EReal) (ix2 r l) = scaleOf (top (actOf m c r)) := by
  have e := outs_last m c ⟨n + 1, hn⟩ (by show ¬(n + 1) % 56 = 0; omega) (by show (n + 1) % 56 = 55; omega)
  have hr : (Finset.univ.sup fun l : Fin 128 => run (cols (actOf m c r)) l (n + 1)) = top (actOf m c r) := by
    rw [h55]; exact sup_run _
  refine (congrFun e (ix2 r l)).trans ?_
  rw [pay2_apply, ← hr]
  refine congrArg scaleOf (congrArg Finset.univ.sup (funext fun l' => ?_))
  rw [peak_step m c ho]
  exact congrArg (fun x => max (max x _) _) (out_peak m c ho n (by omega) (by omega) r l')

/-! ## The result arrays -/

/-- The activation array after the run. -/
theorem final_act (ho : MetaOk m c) (r : Fin 1152) (j : Fin 14336) :
    ((dats m 0 c).arrAt 8 cfg0.N : S1152x14336.Idx → EReal) (ix2 r j) = actOf m c r j := by
  have hj := j.isLt
  have hN : j.val / 256 < cfg0.N := lt_of_lt_of_eq (by omega) N_0.symm
  have h := congrFun (Cert.GateUpIdeal.Value.blocks8 m c ⟨j.val / 256, hN⟩ (flush0_8 _)) (ix2 r ⟨j.val % 256, by omega⟩)
  rw [Cert.GateUpIdeal.Value.flushed8, View.read_apply, cast_eq] at h
  have e := out_act m c ho ⟨j.val / 256, hN⟩ r ⟨j.val % 256, by omega⟩
  refine Eq.trans (congrArg _ (funext (Fin.forall_fin_two.2 ⟨Fin.ext ?_, Fin.ext ?_⟩))) (h.trans (e.trans (congrArg (actOf m c r) (Fin.ext ?_))))
  · show r.val = cc0_transform_8 (grid0.coords ⟨j.val / 256, hN⟩) 0 * 1152 + 1 * r.val
    rw [(idx8 _).1]; omega
  · show j.val = cc0_transform_8 (grid0.coords ⟨j.val / 256, hN⟩) 1 * 256 + 1 * (j.val % 256)
    rw [(idx8 _).2]; show j.val = j.val / 256 * 256 + 1 * (j.val % 256); omega
  · show 256 * (j.val / 256) + j.val % 256 = j.val
    omega

/-- The scale array after the run. -/
theorem final_scale (ho : MetaOk m c) (r : Fin 1152) (l : Fin 128) :
    ((dats m 0 c).arrAt 9 cfg0.N : S1152x128.Idx → EReal) (ix2 r l) = scaleOf (top (actOf m c r)) := by
  have hN : 55 < cfg0.N := lt_of_lt_of_eq (by omega) N_0.symm
  have ha : ((cfg0.win 9).blk ⟨55, hN⟩).view.read (Elt Ideal) ((dats m 0 c).arrAt 9 cfg0.N) = (dats m 0 c).flushed 9 ⟨55, hN⟩ := by
    have hs := (dats m 0 c).arrAt_succ 9 ⟨55, hN⟩
    rw [(flush0_9 ⟨55, hN⟩).2 rfl, if_pos rfl] at hs
    refine (congrArg (((cfg0.win 9).blk ⟨55, hN⟩).view.read (Elt Ideal)) hs).trans ?_
    exact View.read_write_univ _ _
  have h := congrFun ha (ix2 r l)
  rw [Cert.GateUpIdeal.Value.flushed9, View.read_apply, cast_eq] at h
  have e := out_scale m c ho 54 hN rfl r l
  refine Eq.trans (congrArg _ (funext (Fin.forall_fin_two.2 ⟨Fin.ext ?_, Fin.ext ?_⟩))) (h.trans e)
  · show r.val = cc0_transform_9 (grid0.coords ⟨55, hN⟩) 0 * 1152 + 1 * r.val
    rw [(idx9 _).1]; omega
  · show l.val = cc0_transform_9 (grid0.coords ⟨55, hN⟩) 1 * 128 + 1 * l.val
    rw [(idx9 _).2]; omega

end Cert.GateUpTile
-- ==== Proof.Own.RefTile.lean ====
/- The values that the reference forms from its input arrays, read at an index. -/
module

public import proofs.«01_k».proof.Proof.Gen.GateUpRefIdeal.Value
public import proofs.«01_k».proof.Proof.Own.Spec
public import Idealize.ShloMosaic.Lib.Pipeline.ValueKit
public import Idealize.ShloMosaic.Lib.Pipeline.ReadBack

@[expose] public section

set_option maxRecDepth 16384

noncomputable section

namespace Cert.GateUpRefTile

open Cert.GateUpRefIdeal Cert.GateUpRefIdeal.Gen Cert.Sparse
open Idealize.ShloMosaic Idealize.ShloMosaic.TcCoe Idealize.SL.Sem

/-- The select chain of one slot is the slot's byte. -/
theorem select_plane (j nib : BitVec 32) (v0 v1 : BitVec 8) :
    Scalar.select (IntOp.cmpi .eq (IntOp.andi nib 3#32) j) v0 (Scalar.select (IntOp.cmpi .eq (IntOp.shrsi .vector nib 2#32) j) v1 0#8)
      = plane j nib v0 v1 := by
  have e : IntOp.shrsi .vector nib 2#32 = nib.sshiftRight 2 := rfl
  have h : ∀ a b : BitVec 32, ∀ x y : BitVec 8, Scalar.select (IntOp.cmpi .eq a b) x y = if a = b then x else y := by
    intro a b x y
    by_cases hab : a = b
    · subst hab; simp [IntOp.cmpi, Scalar.select]
    · have hb : (a == b) = false := by simpa using hab
      simp [IntOp.cmpi, Scalar.select, hab, hb]
  rw [h, h, e]
  rfl

variable (nib : Vec Ideal S28672x1024 .i32) (v0 v1 : Vec Ideal S28672x1024 .i8) (c0 c1 c2 c3 : Vec Ideal S1152x1024 .fp8e4m3)
  (s : Vec Ideal S1152x1 .f32) (sc : Vec Ideal S1x28672 .f32)

/-- The product of a row of codes with one slot of a weight row. -/
def slotOf (j : BitVec 32) (x : Vec Ideal S1152x1024 .fp8e4m3) (r : Fin 1152) (n : Fin 28672) : EReal :=
  slotDot (fun g => x (ix2 r g)) (fun g => plane j (nib (ix2 n g)) (v0 (ix2 n g)) (v1 (ix2 n g)))

theorem pay7_apply (r : Fin 1152) (n : Fin 28672) :
    k0_pay7 nib v0 v1 c0 c1 (ix2 r n) = slotOf nib v0 v1 0#32 c0 r n + slotOf nib v0 v1 1#32 c1 r n := by
  unfold k0_pay7 k0_pay3 k0_pay4 k0_pay5 k0_pay6 k0_pay2 slotOf slotDot
  pointwise
  simp only [select_plane]
  rfl

/-- The product of a row of codes with a whole weight row. -/
def refDot (r : Fin 1152) (n : Fin 28672) : EReal :=
  slotOf nib v0 v1 0#32 c0 r n + slotOf nib v0 v1 1#32 c1 r n + slotOf nib v0 v1 2#32 c2 r n + slotOf nib v0 v1 3#32 c3 r n

/-- The activation the reference stores. -/
def refAct : FVec Ideal S1152x14336 .f32 :=
  k0_pay10 (k0_pay3 nib) (k0_pay4 nib) (k0_pay5 v0) (k0_pay6 v1) (k0_pay7 nib v0 v1 c0 c1) (k0_pay8 nib) (k0_pay9 nib) 0#8 c2 c3 s sc

theorem pay10_apply (p : FVec Ideal S1152x28672 .f32) (r : Fin 1152) (j : Fin 14336) :
    k0_pay10 (k0_pay3 nib) (k0_pay4 nib) (k0_pay5 v0) (k0_pay6 v1) p (k0_pay8 nib) (k0_pay9 nib) 0#8 c2 c3 s sc (ix2 r j)
      = gateUp (p (ix2 r ⟨j.val, by omega⟩) + slotOf nib v0 v1 2#32 c2 r ⟨j.val, by omega⟩ + slotOf nib v0 v1 3#32 c3 r ⟨j.val, by omega⟩)
          (p (ix2 r ⟨14336 + j.val, by omega⟩) + slotOf nib v0 v1 2#32 c2 r ⟨14336 + j.val, by omega⟩
            + slotOf nib v0 v1 3#32 c3 r ⟨14336 + j.val, by omega⟩)
          (s (ix2 r 0)) (sc (ix2 0 ⟨j.val, by omega⟩)) (sc (ix2 0 ⟨14336 + j.val, by omega⟩)) := by
  unfold k0_pay10 k0_pay8 k0_pay9 k0_pay3 k0_pay4 k0_pay5 k0_pay6 k0_pay2 slotOf slotDot gateUp
  pointwise
  simp only [select_plane]
  rfl

theorem refAct_apply (r : Fin 1152) (j : Fin 14336) :
    refAct nib v0 v1 c0 c1 c2 c3 s sc (ix2 r j)
      = gateUp (refDot nib v0 v1 c0 c1 c2 c3 r ⟨j.val, by omega⟩) (refDot nib v0 v1 c0 c1 c2 c3 r ⟨14336 + j.val, by omega⟩)
          (s (ix2 r 0)) (sc (ix2 0 ⟨j.val, by omega⟩)) (sc (ix2 0 ⟨14336 + j.val, by omega⟩)) := by
  unfold refAct refDot
  rw [pay10_apply, pay7_apply, pay7_apply]

theorem absf_eq (x : EReal) : FloatOps.absf (F := Ideal) (φ := .f32) x = mag x := rfl

theorem rowMax_apply (A : FVec Ideal S1152x14336 .f32) (r : Fin 1152) :
    shapeCast S1152x1 (multiReduction .maximumf [1] S1152 (absf A) 0xFF800000#32 reduces_S1152x14336_S1152 (.inl rfl) rfl) shapeCasts_S1152_S1152x1 (ix2 r 0)
      = top fun j => A (ix2 r j) := by
  have h : shapeCast S1152x1 (multiReduction .maximumf [1] S1152 (absf A) 0xFF800000#32 reduces_S1152x14336_S1152 (.inl rfl) rfl) shapeCasts_S1152_S1152x1 (ix2 r 0)
     = (Finset.univ : Finset (Fin 14336)).fold max (Ideal.ofBits .f32 0xFF800000#32) fun j => FloatOps.absf (F := Ideal) (φ := .f32) (A (ix2 r j)) := by
    pointwise
  refine h.trans ((fold_max_bot _).trans ?_)
  unfold top
  simp only [absf_eq]

theorem pay1_apply (p : FVec Ideal S1152x1 .f32) (r : Fin 1152) (l : Fin 128) :
    k0_pay1 (cmpf .oeq p (broadcast S1152x1 (Scalar.ofBits .f32 0x00000000#32))) (divf p (broadcast S1152x1 (Scalar.ofBits .f32 0x43E00000#32)))
      (Scalar.ofBits .f32 0x3F800000#32) (ix2 r l) = scaleOf (p (ix2 r 0)) := by
  unfold k0_pay1 scaleOf
  pointwise

/-- The scale the reference stores. -/
def refScale : FVec Ideal S1152x128 .f32 :=
  k0_pay1 (k0_pay12 (k0_pay3 nib) (k0_pay4 nib) (k0_pay5 v0) (k0_pay6 v1) (k0_pay7 nib v0 v1 c0 c1) (k0_pay8 nib) (k0_pay9 nib) 0#8 c2 c3 s sc)
    (k0_pay13 (k0_pay3 nib) (k0_pay4 nib) (k0_pay5 v0) (k0_pay6 v1) (k0_pay7 nib v0 v1 c0 c1) (k0_pay8 nib) (k0_pay9 nib) 0#8 c2 c3 s sc)
    (Scalar.ofBits .f32 0x3F800000#32)

theorem refScale_eq : refScale nib v0 v1 c0 c1 c2 c3 s sc
    = k0_pay1 (cmpf .oeq (shapeCast S1152x1 (multiReduction .maximumf [1] S1152 (absf (refAct nib v0 v1 c0 c1 c2 c3 s sc)) 0xFF800000#32 reduces_S1152x14336_S1152 (.inl rfl) rfl) shapeCasts_S1152_S1152x1) (broadcast S1152x1 (Scalar.ofBits .f32 0x00000000#32)))
      (divf (shapeCast S1152x1 (multiReduction .maximumf [1] S1152 (absf (refAct nib v0 v1 c0 c1 c2 c3 s sc)) 0xFF800000#32 reduces_S1152x14336_S1152 (.inl rfl) rfl) shapeCasts_S1152_S1152x1) (broadcast S1152x1 (Scalar.ofBits .f32 0x43E00000#32)))
      (Scalar.ofBits .f32 0x3F800000#32) := by
  unfold refScale k0_pay12 k0_pay13 k0_pay11 refAct
  dsimp only

theorem refScale_apply (r : Fin 1152) (l : Fin 128) :
    refScale nib v0 v1 c0 c1 c2 c3 s sc (ix2 r l) = scaleOf (top fun j => refAct nib v0 v1 c0 c1 c2 c3 s sc (ix2 r j)) := by
  rw [refScale_eq, pay1_apply, rowMax_apply]

theorem two_zero : ∀ a : Fin 2, (![0, 0] : Fin 2 → Nat) a = 0 := by decide

theorem ld_w {e : EltTy} (x : Vec Ideal S28672x1024 e) : View.ld (Val := Elt Ideal) (e' := e) x r0_0 = x :=
  View.ld_unit_lit (S := S28672x1024) _ _ two_zero
theorem ld_c {e : EltTy} (x : Vec Ideal S1152x1024 e) : View.ld (Val := Elt Ideal) (e' := e) x r0_1 = x :=
  View.ld_unit_lit (S := S1152x1024) _ _ two_zero
theorem ld_s {e : EltTy} (x : Vec Ideal S1152x1 e) : View.ld (Val := Elt Ideal) (e' := e) x r0_2 = x :=
  View.ld_unit_lit (S := S1152x1) _ _ two_zero
theorem ld_sc {e : EltTy} (x : Vec Ideal S1x28672 e) : View.ld (Val := Elt Ideal) (e' := e) x r0_3 = x :=
  View.ld_unit_lit (S := S1x28672) _ _ two_zero

/-- The activation block the reference leaves. -/
theorem out_act : out0_9 c0 c1 c2 c3 s v0 v1 nib sc = refAct nib v0 v1 c0 c1 c2 c3 s sc := by
  unfold out0_9 refAct k0_pay20 k0_pay19 k0_pay18 k0_pay17 k0_pay16 k0_pay15 k0_pay14
  rw [ld_w, ld_w, ld_w, ld_c, ld_c, ld_c, ld_c, ld_s, ld_sc]
  exact View.canon_cons_unit_lit (S := S1152x14336) _ _ _ two_zero

/-- The scale block the reference leaves. -/
theorem out_scale : out0_10 c0 c1 c2 c3 s v0 v1 nib sc = refScale nib v0 v1 c0 c1 c2 c3 s sc := by
  unfold out0_10 refScale k0_pay20 k0_pay19 k0_pay18 k0_pay17 k0_pay16 k0_pay15 k0_pay14
  rw [ld_w, ld_w, ld_w, ld_c, ld_c, ld_c, ld_c, ld_s, ld_sc]
  exact View.canon_cons_unit_lit (S := S1152x128) _ _ _ two_zero

end Cert.GateUpRefTile
-- ==== Proof.Own.RefInputs.lean ====
/- The arrays that the reference's call stages, read at an index of the arguments, and its two result arrays. -/
module

public import proofs.«01_k».proof.Proof.Own.RefTile

@[expose] public section

set_option maxRecDepth 16384

noncomputable section

namespace Cert.GateUpRefTile

open Cert.GateUpRefIdeal Cert.GateUpRefIdeal.Gen Cert.Sparse
open Idealize.ShloMosaic Idealize.ShloMosaic.TcCoe Idealize.SL.Sem

variable (m : (ℓ : Loc nD τ sig) → Buf (Elt Ideal) ℓ) (c : Dev nD) (t : Fin cfg0.N)

/-! ## The host operations before the call -/

theorem V_v0 (r : Fin 1152) (g : Fin 1024) :
    (V m c main_v0 : S1152x1024.Idx → EReal) (ix2 r g) = codeAt (m ((c : Thread nD τ).loc main_arg0)) r 0 g := by
  have h : (V m c main_v0 : S1152x1024.Idx → EReal)
      = Host.slice S1152x1024 ![0, 0] ![1, 4] (m ((c : Thread nD τ).loc main_arg0)) slicesBy_S1152x4096_S1152x1024_0s1_0s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 0 + 4 * g.val = 4 * g.val + 0; omega

theorem V_v1 (r : Fin 1152) (g : Fin 1024) :
    (V m c main_v1 : S1152x1024.Idx → EReal) (ix2 r g) = codeAt (m ((c : Thread nD τ).loc main_arg0)) r 1 g := by
  have h : (V m c main_v1 : S1152x1024.Idx → EReal)
      = Host.slice S1152x1024 ![0, 1] ![1, 4] (m ((c : Thread nD τ).loc main_arg0)) slicesBy_S1152x4096_S1152x1024_0s1_1s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 1 + 4 * g.val = 4 * g.val + 1; omega

theorem V_v2 (r : Fin 1152) (g : Fin 1024) :
    (V m c main_v2 : S1152x1024.Idx → EReal) (ix2 r g) = codeAt (m ((c : Thread nD τ).loc main_arg0)) r 2 g := by
  have h : (V m c main_v2 : S1152x1024.Idx → EReal)
      = Host.slice S1152x1024 ![0, 2] ![1, 4] (m ((c : Thread nD τ).loc main_arg0)) slicesBy_S1152x4096_S1152x1024_0s1_2s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 2 + 4 * g.val = 4 * g.val + 2; omega

theorem V_v3 (r : Fin 1152) (g : Fin 1024) :
    (V m c main_v3 : S1152x1024.Idx → EReal) (ix2 r g) = codeAt (m ((c : Thread nD τ).loc main_arg0)) r 3 g := by
  have h : (V m c main_v3 : S1152x1024.Idx → EReal)
      = Host.slice S1152x1024 ![0, 3] ![1, 4] (m ((c : Thread nD τ).loc main_arg0)) slicesBy_S1152x4096_S1152x1024_0s1_3s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 3 + 4 * g.val = 4 * g.val + 3; omega

theorem V_v4 (n : Fin 28672) (g : Fin 1024) :
    (V m c main_v4 : S28672x1024.Idx → BitVec 8) (ix2 n g)
      = (m ((c : Thread nD τ).loc main_arg2) : S28672x2048.Idx → BitVec 8) (ix2 n ⟨2 * g.val, by omega⟩) := by
  have h : (V m c main_v4 : S28672x1024.Idx → BitVec 8)
      = Host.slice S28672x1024 ![0, 0] ![1, 2] (m ((c : Thread nD τ).loc main_arg2)) slicesBy_S28672x2048_S28672x1024_0s1_0s2 := by
    dsimp only [V, hostOps0]; after_results
  rw [h]
  refine congrArg (m ((c : Thread nD τ).loc main_arg2) : S28672x2048.Idx → BitVec 8) (funext (Fin.forall_fin_two.2 ⟨Fin.ext ?_, Fin.ext ?_⟩))
  · show 0 + 1 * n.val = n.val; omega
  · show 0 + 2 * g.val = 2 * g.val; omega

theorem V_v5 (n : Fin 28672) (g : Fin 1024) :
    (V m c main_v5 : S28672x1024.Idx → BitVec 8) (ix2 n g)
      = (m ((c : Thread nD τ).loc main_arg2) : S28672x2048.Idx → BitVec 8) (ix2 n ⟨2 * g.val + 1, by omega⟩) := by
  have h : (V m c main_v5 : S28672x1024.Idx → BitVec 8)
      = Host.slice S28672x1024 ![0, 1] ![1, 2] (m ((c : Thread nD τ).loc main_arg2)) slicesBy_S28672x2048_S28672x1024_0s1_1s2 := by
    dsimp only [V, hostOps0]; after_results
  rw [h]
  refine congrArg (m ((c : Thread nD τ).loc main_arg2) : S28672x2048.Idx → BitVec 8) (funext (Fin.forall_fin_two.2 ⟨Fin.ext ?_, Fin.ext ?_⟩))
  · show 0 + 1 * n.val = n.val; omega
  · show 1 + 2 * g.val = 2 * g.val + 1; omega

theorem V_v17 (n : Fin 28672) (g : Fin 1024) :
    (V m c main_v17 : S28672x1024.Idx → BitVec 32) (ix2 n g)
      = nibble ((m ((c : Thread nD τ).loc main_arg3) : S28672x256.Idx → BitVec 16) (ix2 n ⟨g.val / 4, by omega⟩)) (g.val % 4) := by
  have h : (V m c main_v17 : S28672x1024.Idx → BitVec 32)
      = shapeCast S28672x1024 (andi (Host.shrsi
          (broadcastInDim S28672x256x4 ![0, 1, 2] bcast_S28672x256x1_S28672x256x4_0_1_2 (broadcastInDim S28672x256x1 ![0, 1] bcast_S28672x256_S28672x256x1_0_1
            (extui 32 (m ((c : Thread nD τ).loc main_arg3)) natLt_16_32)))
          (broadcastInDim S28672x256x4 ![0, 1, 2] bcast_S1x1x4_S28672x256x4_0_1_2 (broadcastInDim S1x1x4 ![2] bcast_S4_S1x1x4_2
            (muli (broadcastInDim S4 ![] bcast_S_S4 (constantI S_ 32 4#32)) (iotaInDim S4 32 0)))))
          (broadcastInDim S28672x256x4 ![] bcast_S_S28672x256x4 (constantI S_ 32 15#32))) shapeCasts_S28672x256x4_S28672x1024 := by
    dsimp only [V, hostOps0]; after_results; rfl
  have hg := g.isLt
  rw [h]
  refine (shapeCast_apply _ _ _ (ix3 n ⟨g.val / 4, by omega⟩ ⟨g.val % 4, by omega⟩) ?_).trans ?_
  · rw [Shape.rowMajor_val_two, Shape.rowMajor_val_three]
    show (n.val * 256 + g.val / 4) * 4 + g.val % 4 = n.val * 1024 + g.val
    omega
  pointwise
  generalize (m ((c : Thread nD τ).loc main_arg3) : S28672x256.Idx → BitVec 16) (ix2 n ⟨g.val / 4, by omega⟩) = w
  have hq : g.val % 4 = 0 ∨ g.val % 4 = 1 ∨ g.val % 4 = 2 ∨ g.val % 4 = 3 := by omega
  rcases hq with e | e | e | e <;> rw [e] <;> rfl

theorem V_v18 (n : Fin 28672) :
    (V m c main_v18 : S1x28672.Idx → EReal) (ix2 0 n) = (m ((c : Thread nD τ).loc main_arg4) : S28672.Idx → EReal) (ix1 n) := by
  have h : (V m c main_v18 : S1x28672.Idx → EReal) = shapeCast S1x28672 (m ((c : Thread nD τ).loc main_arg4)) shapeCasts_S28672_S1x28672 := by
    dsimp only [V, hostOps0]; after_results; rfl
  rw [h]
  refine shapeCast_apply _ _ _ (ix1 n) ?_
  rw [Shape.rowMajor_val_two, Shape.rowMajor_val_one]
  show n.val = 0 * 28672 + n.val
  omega

/-! ## The blocks -/

theorem blk0 (i : Fin 1152) (k : Fin 1024) :
    (iblk m c 0 t : S1152x1024.Idx → EReal) (ix2 i k) = (V m c main_v0 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk1 (i : Fin 1152) (k : Fin 1024) :
    (iblk m c 1 t : S1152x1024.Idx → EReal) (ix2 i k) = (V m c main_v1 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk2 (i : Fin 1152) (k : Fin 1024) :
    (iblk m c 2 t : S1152x1024.Idx → EReal) (ix2 i k) = (V m c main_v2 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk3 (i : Fin 1152) (k : Fin 1024) :
    (iblk m c 3 t : S1152x1024.Idx → EReal) (ix2 i k) = (V m c main_v3 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk4 (i : Fin 1152) (k : Fin 1) :
    (iblk m c 4 t : S1152x1.Idx → EReal) (ix2 i k) = (V m c main_arg1 : S1152x1.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1 + 1 * k.val = k.val
    omega

theorem blk5 (i : Fin 28672) (k : Fin 1024) :
    (iblk m c 5 t : S28672x1024.Idx → BitVec 8) (ix2 i k) = (V m c main_v4 : S28672x1024.Idx → BitVec 8) (ix2 i k) := by
  unfold iblk
  rw [View.read_apply, cast_eq]
  refine congrArg _ (funext (Fin.forall_fin_two.2 ⟨Fin.ext ?_, Fin.ext ?_⟩))
  · show 0 * 28672 + 1 * i.val = i.val
    omega
  · show 0 * 1024 + 1 * k.val = k.val
    omega

theorem blk6 (i : Fin 28672) (k : Fin 1024) :
    (iblk m c 6 t : S28672x1024.Idx → BitVec 8) (ix2 i k) = (V m c main_v5 : S28672x1024.Idx → BitVec 8) (ix2 i k) := by
  unfold iblk
  rw [View.read_apply, cast_eq]
  refine congrArg _ (funext (Fin.forall_fin_two.2 ⟨Fin.ext ?_, Fin.ext ?_⟩))
  · show 0 * 28672 + 1 * i.val = i.val
    omega
  · show 0 * 1024 + 1 * k.val = k.val
    omega

theorem blk7 (i : Fin 28672) (k : Fin 1024) :
    (iblk m c 7 t : S28672x1024.Idx → BitVec 32) (ix2 i k) = (V m c main_v17 : S28672x1024.Idx → BitVec 32) (ix2 i k) := by
  unfold iblk
  rw [View.read_apply, cast_eq]
  refine congrArg _ (funext (Fin.forall_fin_two.2 ⟨Fin.ext ?_, Fin.ext ?_⟩))
  · show 0 * 28672 + 1 * i.val = i.val
    omega
  · show 0 * 1024 + 1 * k.val = k.val
    omega

theorem blk8 (i : Fin 1) (k : Fin 28672) :
    (iblk m c 8 t : S1x28672.Idx → EReal) (ix2 i k) = (V m c main_v18 : S1x28672.Idx → EReal) (ix2 i k) := by
  unfold iblk
  rw [View.read_apply, cast_eq]
  refine congrArg _ (funext (Fin.forall_fin_two.2 ⟨Fin.ext ?_, Fin.ext ?_⟩))
  · show 0 * 1 + 1 * i.val = i.val
    omega
  · show 0 * 28672 + 1 * k.val = k.val
    omega

/-- The activation of the reference's arguments. -/
def actOf (r : Fin 1152) (n : Fin 14336) : EReal :=
  act (m ((c : Thread nD τ).loc main_arg0)) (m ((c : Thread nD τ).loc main_arg1)) (m ((c : Thread nD τ).loc main_arg2))
    (m ((c : Thread nD τ).loc main_arg3)) (m ((c : Thread nD τ).loc main_arg4)) r n

theorem slot_of (j : Fin 4) (x : Vec Ideal S1152x1024 .fp8e4m3) (r : Fin 1152) (n : Fin 28672)
    (hx : ∀ g, (x : S1152x1024.Idx → EReal) (ix2 r g) = codeAt (m ((c : Thread nD τ).loc main_arg0)) r j g) :
    slotOf (iblk m c 7 t) (iblk m c 5 t) (iblk m c 6 t) (BitVec.ofNat 32 j.val) x r n
      = slotDot (codeAt (m ((c : Thread nD τ).loc main_arg0)) r j)
          (fun g => wByte (m ((c : Thread nD τ).loc main_arg2)) (m ((c : Thread nD τ).loc main_arg3)) n g j) := by
  unfold slotOf
  refine congrArg₂ slotDot (funext hx) (funext fun g => ?_)
  unfold wByte
  refine congr (congr (congrArg (plane (BitVec.ofNat 32 j.val)) ((blk7 m c t n g).trans (V_v17 m c n g))) ((blk5 m c t n g).trans (V_v4 m c n g))) ((blk6 m c t n g).trans (V_v5 m c n g))

theorem ref_dot (r : Fin 1152) (n : Fin 28672) :
    refDot (iblk m c 7 t) (iblk m c 5 t) (iblk m c 6 t) (iblk m c 0 t) (iblk m c 1 t) (iblk m c 2 t) (iblk m c 3 t) r n
      = sparseDot (codeAt (m ((c : Thread nD τ).loc main_arg0)) r)
          (wByte (m ((c : Thread nD τ).loc main_arg2)) (m ((c : Thread nD τ).loc main_arg3)) n) := by
  unfold refDot sparseDot
  exact congrArg₂ (· + ·) (congrArg₂ (· + ·) (congrArg₂ (· + ·)
    (slot_of m c t 0 _ r n fun g => (blk0 m c t r g).trans (V_v0 m c r g))
    (slot_of m c t 1 _ r n fun g => (blk1 m c t r g).trans (V_v1 m c r g)))
    (slot_of m c t 2 _ r n fun g => (blk2 m c t r g).trans (V_v2 m c r g)))
    (slot_of m c t 3 _ r n fun g => (blk3 m c t r g).trans (V_v3 m c r g))

/-- The activation that the reference's only point leaves. -/
theorem ref_act (r : Fin 1152) (j : Fin 14336) :
    refAct (iblk m c 7 t) (iblk m c 5 t) (iblk m c 6 t) (iblk m c 0 t) (iblk m c 1 t) (iblk m c 2 t) (iblk m c 3 t) (iblk m c 4 t) (iblk m c 8 t) (ix2 r j)
      = actOf m c r j := by
  rw [refAct_apply, ref_dot, ref_dot]
  unfold actOf act
  exact congr (congr (congrArg (gateUp _ _) ((blk4 m c t r 0).trans (congrFun (V_main_arg1 m c) _))) ((blk8 m c t 0 _).trans (V_v18 m c _)))
    ((blk8 m c t 0 _).trans (V_v18 m c _))

/-- The activation array after the run. -/
theorem final_act (r : Fin 1152) (j : Fin 14336) :
    ((dats m 0 c).arrAt 9 cfg0.N : S1152x14336.Idx → EReal) (ix2 r j) = actOf m c r j := by
  have hN : 0 < cfg0.N := by decide
  have h := congrFun (Cert.GateUpRefIdeal.Value.blocks9 m c ⟨0, hN⟩ (flush0_9 _)) (ix2 r j)
  rw [Cert.GateUpRefIdeal.Value.flushed9, View.read_apply, cast_eq, out_act] at h
  refine Eq.trans (congrArg _ (funext (Fin.forall_fin_two.2 ⟨Fin.ext ?_, Fin.ext ?_⟩))) (h.trans (ref_act m c ⟨0, hN⟩ r j))
  · show r.val = 0 * 1152 + 1 * r.val
    omega
  · show j.val = 0 * 14336 + 1 * j.val
    omega

/-- The scale array after the run. -/
theorem final_scale (r : Fin 1152) (l : Fin 128) :
    ((dats m 0 c).arrAt 10 cfg0.N : S1152x128.Idx → EReal) (ix2 r l) = scaleOf (top (actOf m c r)) := by
  have hN : 0 < cfg0.N := by decide
  have h := congrFun (Cert.GateUpRefIdeal.Value.blocks10 m c ⟨0, hN⟩ (flush0_10 _)) (ix2 r l)
  rw [Cert.GateUpRefIdeal.Value.flushed10, View.read_apply, cast_eq, out_scale] at h
  have e : (fun j => refAct (iblk m c 7 ⟨0, hN⟩) (iblk m c 5 ⟨0, hN⟩) (iblk m c 6 ⟨0, hN⟩) (iblk m c 0 ⟨0, hN⟩) (iblk m c 1 ⟨0, hN⟩)
      (iblk m c 2 ⟨0, hN⟩) (iblk m c 3 ⟨0, hN⟩) (iblk m c 4 ⟨0, hN⟩) (iblk m c 8 ⟨0, hN⟩) (ix2 r j)) = actOf m c r := funext fun j => ref_act m c ⟨0, hN⟩ r j
  refine Eq.trans (congrArg _ (funext (Fin.forall_fin_two.2 ⟨Fin.ext ?_, Fin.ext ?_⟩)))
    (h.trans ((refScale_apply _ _ _ _ _ _ _ _ _ r l).trans (congrArg (fun f : Fin 14336 → EReal => scaleOf (top f)) e)))
  · show r.val = 0 * 1152 + 1 * r.val
    omega
  · show l.val = 0 * 128 + 1 * l.val
    omega

end Cert.GateUpRefTile
-- ==== Proof.Own.Meta.lean ====
/- The precondition of the value claim, read at a metadata word. -/
module

public import proofs.«01_k».proof.Proof.Gen.Pre_valid_meta
public import proofs.«01_k».proof.Proof.Own.Spec

@[expose] public section

set_option maxRecDepth 16384

noncomputable section

namespace Cert.Sparse

open Idealize.ShloMosaic

/-- One bit: whether nibble `t` of a word has its two indices in increasing order. -/
def okBit (w : BitVec 16) (t : BitVec 32) : BitVec 1 :=
  IntOp.cmpi .slt (IntOp.andi (IntOp.andi (IntOp.shrsi .host (w.setWidth 32) t) 15#32) 3#32)
    (IntOp.shrsi .host (IntOp.andi (IntOp.shrsi .host (w.setWidth 32) t) 15#32) 2#32)

theorem ordered_of_slt : ∀ n : Fin 16, IntOp.cmpi .slt (IntOp.andi (BitVec.ofNat 32 n.val) 3#32) (IntOp.shrsi .host (BitVec.ofNat 32 n.val) 2#32) = 1#1 →
    Ordered (BitVec.ofNat 32 n.val) := by
  unfold Ordered
  decide +kernel

theorem ordered_of_okBit (w : BitVec 16) (t : Fin 4) (h : okBit w (BitVec.ofNat 32 (4 * t.val)) = 1#1) : Ordered (nibble w t.val) := by
  have e : IntOp.andi (IntOp.shrsi .host (w.setWidth 32) (BitVec.ofNat 32 (4 * t.val))) 15#32 = nibble w t.val := by
    revert t; intro t _
    fin_cases t <;> rfl
  have hn := nibble_lt w t.val
  have hb : nibble w t.val = BitVec.ofNat 32 (nibble w t.val).toNat := by simp
  unfold okBit at h
  rw [e, hb] at h
  rw [hb]
  exact ordered_of_slt ⟨_, hn⟩ h

theorem and_one {a b : BitVec 1} (h : IntOp.andi a b = 1#1) : a = 1#1 ∧ b = 1#1 := by
  revert a b; decide

theorem fn_apply (a0 : FVec Ideal Pre_valid_meta.S1152x4096 .fp8e4m3) (a1 : FVec Ideal Pre_valid_meta.S1152x1 .f32)
    (a2 : IVec Pre_valid_meta.S28672x2048 8) (a3 : IVec Pre_valid_meta.S28672x256 16) (a4 : FVec Ideal Pre_valid_meta.S28672 .f32)
    (i : Pre_valid_meta.S28672x256.Idx) :
    Pre_valid_meta.fn (F := Ideal) a0 a1 a2 a3 a4 i
      = IntOp.andi (IntOp.andi (IntOp.andi (okBit (a3 i) 0#32) (okBit (a3 i) 4#32)) (okBit (a3 i) 8#32)) (okBit (a3 i) 12#32) := rfl

/-- Where the precondition's array is all ones, every nibble is ordered. -/
theorem allOrdered_of_fn (a0 : FVec Ideal Pre_valid_meta.S1152x4096 .fp8e4m3) (a1 : FVec Ideal Pre_valid_meta.S1152x1 .f32)
    (a2 : IVec Pre_valid_meta.S28672x2048 8) (a3 : IVec Pre_valid_meta.S28672x256 16) (a4 : FVec Ideal Pre_valid_meta.S28672 .f32)
    (h : ∀ i, Pre_valid_meta.fn (F := Ideal) a0 a1 a2 a3 a4 i = 1#1) : AllOrdered (R := 28672) (K := 256) a3 := by
  intro i t
  have hi := h i
  rw [fn_apply] at hi
  obtain ⟨h', h3⟩ := and_one hi
  obtain ⟨h'', h2⟩ := and_one h'
  obtain ⟨h0, h1⟩ := and_one h''
  refine ordered_of_okBit _ t ?_
  fin_cases t
  · exact h0
  · exact h1
  · exact h2
  · exact h3

end Cert.Sparse
-- ==== Proof.Own.OutTile.lean ====
/- The block that the output projection leaves at a grid point, as a function of the point's input blocks, read at an index. -/
module

public import proofs.«01_k».proof.Proof.Gen.OutProjIdeal.Value
public import proofs.«01_k».proof.Proof.Own.Weights

@[expose] public section

set_option maxRecDepth 16384

noncomputable section

namespace Cert.OutProjTile

open Cert.OutProjIdeal Cert.OutProjIdeal.Gen Cert.Sparse
open Cert.GateUpTile (stripes wts wts_apply two_zero)
open Idealize.ShloMosaic Idealize.ShloMosaic.TcCoe Idealize.SL.Sem

section
variable {F : FTy → Type} [FloatOps F]

/-- The first 128 columns of the block. -/
def half0 (a : Vec F S1152x4096 .fp8e4m3) (sa : Vec F S1152x128 .f32) (w : Vec F S256x4096 .fp8e4m3) (sc : Vec F S1x256 .f32) (x : Vec F S1152x256 .bf16) :
    FVec F S1152x128 .f32 :=
  k0_pay187 (k0_pay184 a) w (constant S1152x256 .f32 0x00000000#32) sa
    (View.ld (Val := Elt F) (e' := .bf16) x (Rect.unit (s := S1152x256) ![0, 0] S1152x128.size inb_S1152x256_S1152x128_0_0))
    (View.ld (Val := Elt F) (e' := .f32) sc (Rect.unit (s := S1x256) ![0, 0] S1x128.size inb_S1x256_S1x128_0_0))

/-- The last 128 columns of the block. -/
def half1 (a : Vec F S1152x4096 .fp8e4m3) (sa : Vec F S1152x128 .f32) (w : Vec F S256x4096 .fp8e4m3) (sc : Vec F S1x256 .f32) (x : Vec F S1152x256 .bf16) :
    FVec F S1152x128 .f32 :=
  k0_pay1 (k0_pay188 (View.ld (Val := Elt F) (e' := .bf16) x (Rect.unit (s := S1152x256) ![0, 128] S1152x128.size inb_S1152x256_S1152x128_0_128)))
    (k0_pay189 (k0_pay184 a) w (constant S1152x256 .f32 0x00000000#32) sa)
    (View.ld (Val := Elt F) (e' := .f32) sc (Rect.unit (s := S1x256) ![0, 128] S1x128.size inb_S1x256_S1x128_0_128))

/-- The block. -/
def block (a : Vec F S1152x4096 .fp8e4m3) (sa : Vec F S1152x128 .f32) (w : Vec F S256x4096 .fp8e4m3) (sc : Vec F S1x256 .f32) (x : Vec F S1152x256 .bf16) :
    Vec F S1152x256 .f32 :=
  View.canon [(⟨Rect.unit (s := S1152x256) ![0, 128] S1152x128.size inb_S1152x256_S1152x128_0_128, half1 a sa w sc x⟩ : View.Piece (Elt F) S1152x256 .f32),
    ⟨Rect.unit (s := S1152x256) ![0, 0] S1152x128.size inb_S1152x256_S1152x128_0_0, half0 a sa w sc x⟩]

theorem readCov_stripes (v : View sig .tc .vmem S256x4096 .fp8e4m3) (vals : Vec F S256x2048 .i8) (mt : Vec F S256x256 .i16) :
    v.readCov (stripes vals mt) (Rect.unit (s := S256x4096) ![0, 0] S256x4096.size inb_S256x4096_S256x4096_0_0).toLoadRect = wts vals mt := by
  rw [View.readCov_eq_canon']
  exact View.ld_unit_lit (S := S256x4096) _ _ two_zero

/-- A whole load of a buffer that holds `x`. -/
theorem ld_unread {n k : Nat} {e : EltTy} {M : Memref sig .tc .vmem ⟨2, ![n, k]⟩ e} (h : M.IsWhole)
    (x : (⟨2, ![n, k]⟩ : Shape).Idx → Elt F e) (inb) :
    View.ld (Val := Elt F) (e' := e) (M.view.read (Elt F) (h.unread x))
      (Rect.unit (s := ⟨2, ![n, k]⟩) ![0, 0] (⟨2, ![n, k]⟩ : Shape).size inb) = x := by
  rw [h.read_unread]
  exact View.ld_unit_lit (S := ⟨2, ![n, k]⟩) _ _ two_zero

variable (c : Dev nD) (i : grid0.Coords)
  (arg1 : Memref sig .tc .vmem S1152x4096 .fp8e4m3) (harg1 : arg1.IsWhole)
  (arg2 : Memref sig .tc .vmem S1152x128 .f32) (harg2 : arg2.IsWhole)
  (arg3 : Memref sig .tc .vmem S256x2048 .i8) (harg3 : arg3.IsWhole)
  (arg4 : Memref sig .tc .vmem S256x256 .i16) (harg4 : arg4.IsWhole)
  (arg5 : Memref sig .tc .vmem S1x256 .f32) (harg5 : arg5.IsWhole)
  (arg6 : Memref sig .tc .vmem S1152x256 .bf16) (harg6 : arg6.IsWhole)
  (arg7 : Memref sig .tc .vmem S1152x256 .f32) (harg7 : arg7.IsWhole)
  (arg8 : Memref sig .tc .vmem S256x4096 .fp8e4m3) (harg8 : arg8.IsWhole)
  (x0 : Vec F S1152x4096 .fp8e4m3) (x1 : Vec F S1152x128 .f32) (x2 : Vec F S256x2048 .i8) (x3 : Vec F S256x256 .i16)
  (x4 : Vec F S1x256 .f32) (x5 : Vec F S1152x256 .bf16)

/-- The block that a point leaves. -/
theorem out_eq : out0_A_6 c i arg1 harg1 arg2 harg2 arg3 harg3 arg4 harg4 arg5 harg5 arg6 harg6 arg7 harg7 arg8 harg8 x0 x1 x2 x3 x4 x5 = block x0 x1 (wts x2 x3) x4 x5 := by
  have raw : out0_A_6 c i arg1 harg1 arg2 harg2 arg3 harg3 arg4 harg4 arg5 harg5 arg6 harg6 arg7 harg7 arg8 harg8 x0 x1 x2 x3 x4 x5
      = VO0_6.read (Elt F) (VO0_6.writes (Elt F) VO0_6.junk [(⟨Rect.unit (s := S1152x256) ![0, 128] S1152x128.size inb_S1152x256_S1152x128_0_128, half1 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg8.view.readCov (stripes (arg3.view.read (Elt F) (harg3.unread x2)) (arg4.view.read (Elt F) (harg4.unread x3))) (Rect.unit (s := S256x4096) ![0, 0] S256x4096.size inb_S256x4096_S256x4096_0_0).toLoadRect) (arg5.view.read (Elt F) (harg5.unread x4)) (arg6.view.read (Elt F) (harg6.unread x5))⟩ : View.Piece (Elt F) S1152x256 .f32),
        ⟨Rect.unit (s := S1152x256) ![0, 0] S1152x128.size inb_S1152x256_S1152x128_0_0, half0 (View.ld (Val := Elt F) (e' := .fp8e4m3) (arg1.view.read (Elt F) (harg1.unread x0)) (Rect.unit (s := S1152x4096) ![0, 0] S1152x4096.size inb_S1152x4096_S1152x4096_0_0)) (View.ld (Val := Elt F) (e' := .f32) (arg2.view.read (Elt F) (harg2.unread x1)) (Rect.unit (s := S1152x128) ![0, 0] S1152x128.size inb_S1152x128_S1152x128_0_0)) (arg8.view.readCov (stripes (arg3.view.read (Elt F) (harg3.unread x2)) (arg4.view.read (Elt F) (harg4.unread x3))) (Rect.unit (s := S256x4096) ![0, 0] S256x4096.size inb_S256x4096_S256x4096_0_0).toLoadRect) (arg5.view.read (Elt F) (harg5.unread x4)) (arg6.view.read (Elt F) (harg6.unread x5))⟩]) := by
    sl_kernel_rfl
  rw [raw, ld_unread harg1, ld_unread harg2, harg3.read_unread, harg4.read_unread, harg5.read_unread, harg6.read_unread, View.read_writes_junk_eq_canon]
  rw [readCov_stripes]
  rfl

end

/-! ## Read at an index -/

/-- A row of codes times a row of the expanded weight tile. -/
def rowDot (a : Vec Ideal S1152x4096 .fp8e4m3) (w : Vec Ideal S256x4096 .fp8e4m3) (r : Fin 1152) (n : Fin 256) : EReal :=
  ∑ k : Fin 4096, a (ix2 r k) * w (ix2 n k)

theorem pay184_eq (a : Vec Ideal S1152x4096 .fp8e4m3) : k0_pay184 a = a := by
  unfold k0_pay184; exact shapeCast_self _ _

variable (a : Vec Ideal S1152x4096 .fp8e4m3) (sa : Vec Ideal S1152x128 .f32) (s : Fin 1152 → EReal)
  (w : Vec Ideal S256x4096 .fp8e4m3) (sc : Vec Ideal S1x256 .f32) (x : Vec Ideal S1152x256 .bf16)

/-- The block's element at row `r`, column `n`. -/
def elemAt (r : Fin 1152) (n : Fin 256) : EReal :=
  (x (ix2 r n) : EReal) + rowDot a w r n * s r * (sc (ix2 0 n) : EReal)

theorem pay187_apply (y : Vec Ideal S1152x128 .bf16) (sl : Vec Ideal S1x128 .f32) (r : Fin 1152) (l : Fin 128) :
    k0_pay187 a w (constant S1152x256 .f32 0x00000000#32) sa y sl (ix2 r l)
      = (y (ix2 r l) : EReal) + rowDot a w r ⟨l.val, by omega⟩ * (sa (ix2 r l) : EReal) * (sl (ix2 0 l) : EReal) := by
  unfold k0_pay187 k0_pay186 k0_pay185 rowDot
  pointwise

theorem pay1_apply (y : Vec Ideal S1152x128 .bf16) (sl : Vec Ideal S1x128 .f32) (r : Fin 1152) (l : Fin 128) :
    k0_pay1 (k0_pay188 y) (k0_pay189 a w (constant S1152x256 .f32 0x00000000#32) sa) sl (ix2 r l)
      = (y (ix2 r l) : EReal) + rowDot a w r ⟨128 + l.val, by omega⟩ * (sa (ix2 r l) : EReal) * (sl (ix2 0 l) : EReal) := by
  unfold k0_pay1 k0_pay188 k0_pay189 k0_pay186 k0_pay185 rowDot
  pointwise

theorem ld_lo {m : Nat} {e : EltTy} (v : Vec Ideal ⟨2, ![m, 256]⟩ e) (inb) (r : Fin m) (l : Fin 128) :
    View.ld (Val := Elt Ideal) (e' := e) v (Rect.unit (s := ⟨2, ![m, 256]⟩) ![0, 0] (⟨2, ![m, 128]⟩ : Shape).size inb) (ix2 r l) = v (ix2 r ⟨l.val, by omega⟩) := by
  refine View.ld_unit_apply_of v _ _ _ _ (ix2 r ⟨l.val, by omega⟩) ?_
  refine Fin.forall_fin_two.2 ⟨?_, ?_⟩
  · show r.val = 0 + r.val; omega
  · show l.val = 0 + l.val; omega

theorem ld_hi {m : Nat} {e : EltTy} (v : Vec Ideal ⟨2, ![m, 256]⟩ e) (inb) (r : Fin m) (l : Fin 128) :
    View.ld (Val := Elt Ideal) (e' := e) v (Rect.unit (s := ⟨2, ![m, 256]⟩) ![0, 128] (⟨2, ![m, 128]⟩ : Shape).size inb) (ix2 r l) = v (ix2 r ⟨128 + l.val, by omega⟩) := by
  refine View.ld_unit_apply_of v _ _ _ _ (ix2 r ⟨128 + l.val, by omega⟩) ?_
  refine Fin.forall_fin_two.2 ⟨?_, ?_⟩
  · show r.val = 0 + r.val; omega
  · rfl

theorem half0_apply (hs : ∀ r l, sa (ix2 r l) = s r) (r : Fin 1152) (l : Fin 128) :
    half0 a sa w sc x (ix2 r l) = elemAt a s w sc x r ⟨l.val, by omega⟩ := by
  unfold half0 elemAt
  refine (pay187_apply _ sa w _ _ r l).trans ?_
  rw [pay184_eq, hs]
  exact congrArg₂ (fun p q : EReal => p + rowDot a w r ⟨l.val, by omega⟩ * s r * q) (ld_lo x _ r l) (ld_lo sc _ 0 l)

theorem half1_apply (hs : ∀ r l, sa (ix2 r l) = s r) (r : Fin 1152) (l : Fin 128) :
    half1 a sa w sc x (ix2 r l) = elemAt a s w sc x r ⟨128 + l.val, by omega⟩ := by
  unfold half1 elemAt
  refine (pay1_apply _ sa w _ _ r l).trans ?_
  rw [pay184_eq, hs]
  exact congrArg₂ (fun p q : EReal => p + rowDot a w r ⟨128 + l.val, by omega⟩ * s r * q) (ld_hi x _ r l) (ld_hi sc _ 0 l)

theorem block_apply (hs : ∀ r l, sa (ix2 r l) = s r) (r : Fin 1152) (n : Fin 256) :
    block a sa w sc x (ix2 r n) = elemAt a s w sc x r n := by
  unfold block
  refine View.canon_apply_of_pieces (Val := Elt Ideal) (S := S1152x256) (e := .f32)
    (fun i : S1152x256.Idx => elemAt a s w sc x (i 0) (i 1)) _ ?_ (ix2 r n) ?_
  · intro p hp z
    rcases List.mem_cons.1 hp with rfl | hp
    · obtain ⟨r', l, rfl⟩ : ∃ (r' : Fin 1152) (l : Fin 128), z = ix2 r' l := ⟨z 0, z 1, by
        funext a; match a with | ⟨0, _⟩ => rfl | ⟨1, _⟩ => rfl⟩
      refine (half1_apply a sa s w sc x hs r' l).trans ?_
      refine congrArg₂ (elemAt a s w sc x) (Fin.ext ?_) (Fin.ext ?_)
      · show r'.val = 0 + 1 * r'.val; omega
      · show 128 + l.val = 128 + 1 * l.val; omega
    · rcases List.mem_singleton.1 hp with rfl
      obtain ⟨r', l, rfl⟩ : ∃ (r' : Fin 1152) (l : Fin 128), z = ix2 r' l := ⟨z 0, z 1, by
        funext a; match a with | ⟨0, _⟩ => rfl | ⟨1, _⟩ => rfl⟩
      refine (half0_apply a sa s w sc x hs r' l).trans ?_
      refine congrArg₂ (elemAt a s w sc x) (Fin.ext ?_) (Fin.ext ?_)
      · show r'.val = 0 + 1 * r'.val; omega
      · show l.val = 0 + 1 * l.val; omega
  · have hr := r.isLt
    have hn := n.isLt
    by_cases h : n.val < 128
    · refine ⟨_, List.mem_cons_of_mem _ (List.mem_singleton.2 rfl), (Rect.mem_set_unit (inb := inb_S1152x256_S1152x128_0_0)).2 (Fin.forall_fin_two.2 ⟨⟨?_, ?_⟩, ⟨?_, ?_⟩⟩)⟩
      · show 0 ≤ r.val; omega
      · show r.val < 0 + 1152; omega
      · show 0 ≤ n.val; omega
      · show n.val < 0 + 128; omega
    · refine ⟨_, List.mem_cons_self, (Rect.mem_set_unit (inb := inb_S1152x256_S1152x128_0_128)).2 (Fin.forall_fin_two.2 ⟨⟨?_, ?_⟩, ⟨?_, ?_⟩⟩)⟩
      · show 0 ≤ r.val; omega
      · show r.val < 0 + 1152; omega
      · show 128 ≤ n.val; omega
      · show n.val < 128 + 128; omega

end Cert.OutProjTile
-- ==== Proof.Own.OutPoints.lean ====
/- What the output projection computes: the blocks a grid point stages, and the result array as a function of the arguments. -/
module

public import proofs.«01_k».proof.Proof.Own.OutTile

@[expose] public section

set_option maxRecDepth 16384

noncomputable section

namespace Cert.Sparse

open Idealize.ShloMosaic

/-- The output projection with the residual added, at row `r`, column `n`. -/
def outProj (c : (⟨2, ![1152, 4096]⟩ : Shape).Idx → EReal) (s : (⟨2, ![1152, 1]⟩ : Shape).Idx → EReal)
    (vals : (⟨2, ![4096, 2048]⟩ : Shape).Idx → BitVec 8) (mt : (⟨2, ![4096, 256]⟩ : Shape).Idx → BitVec 16)
    (sc : (⟨1, ![4096]⟩ : Shape).Idx → EReal) (x : (⟨2, ![1152, 4096]⟩ : Shape).Idx → EReal) (r : Fin 1152) (n : Fin 4096) : EReal :=
  x (ix2 r n) + sparseDot (codeAt c r) (wByte vals mt n) * s (ix2 r 0) * sc (ix1 n)

end Cert.Sparse

namespace Cert.OutProjTile

open Cert.OutProjIdeal Cert.OutProjIdeal.Gen Cert.Sparse
open Cert.GateUpTile (stripes wts wts_apply)
open Idealize.ShloMosaic Idealize.ShloMosaic.TcCoe Idealize.SL.Sem

theorem idx0 : ∀ t : Fin grid0.N, cc0_transform_0 (grid0.coords t) 0 = 0 ∧ cc0_transform_0 (grid0.coords t) 1 = 0 := by decide +kernel
theorem idx1 : ∀ t : Fin grid0.N, cc0_transform_1 (grid0.coords t) 0 = 0 ∧ cc0_transform_1 (grid0.coords t) 1 = 0 := by decide +kernel
theorem idx2 : ∀ t : Fin grid0.N, cc0_transform_2 (grid0.coords t) 0 = t.val ∧ cc0_transform_2 (grid0.coords t) 1 = 0 := by decide +kernel
theorem idx3 : ∀ t : Fin grid0.N, cc0_transform_3 (grid0.coords t) 0 = t.val ∧ cc0_transform_3 (grid0.coords t) 1 = 0 := by decide +kernel
theorem idx4 : ∀ t : Fin grid0.N, cc0_transform_4 (grid0.coords t) 0 = 0 ∧ cc0_transform_4 (grid0.coords t) 1 = t.val := by decide +kernel
theorem idx5 : ∀ t : Fin grid0.N, cc0_transform_5 (grid0.coords t) 0 = 0 ∧ cc0_transform_5 (grid0.coords t) 1 = t.val := by decide +kernel
theorem idx6 : ∀ t : Fin grid0.N, cc0_transform_6 (grid0.coords t) 0 = 0 ∧ cc0_transform_6 (grid0.coords t) 1 = t.val := by decide +kernel

variable (m : (ℓ : Loc nD τ sig) → Buf (Elt Ideal) ℓ) (c : Dev nD) (t : Fin cfg0.N)

theorem tlt : t.val < 16 := t.isLt.trans_eq N_0

/-! ## The host operations before the call -/

theorem V_v2 (r : Fin 1152) (k : Fin 4096) :
    (V m c main_v2 : S1152x4096.Idx → EReal) (ix2 r k) = codeAt (m ((c : Thread nD τ).loc main_arg0)) r (slot k) (grp k) := by
  have h : (V m c main_v2 : S1152x4096.Idx → EReal) = shapeCast S1152x4096 (transpose S1152x4x4x256 [0, 1, 3, 2]
      (shapeCast S1152x4x256x4 (m ((c : Thread nD τ).loc main_arg0)) shapeCasts_S1152x4096_S1152x4x256x4)
      transposes_S1152x4x256x4_S1152x4x4x256_0_1_3_2) shapeCasts_S1152x4x4x256_S1152x4096 := by
    dsimp only [V, hostOps0]; after_results; rfl
  have hk := k.isLt
  rw [h]
  refine (shapeCast_apply _ _ _ (ix4 r ⟨k.val / 1024, by omega⟩ (slot k) ⟨k.val % 256, by omega⟩) ?_).trans ?_
  · rw [Shape.rowMajor_val_two, Shape.rowMajor_val_four]
    show ((r.val * 4 + k.val / 1024) * 4 + k.val % 1024 / 256) * 256 + k.val % 256 = r.val * 4096 + k.val
    omega
  refine (shapeCast_apply _ _ _ (ix2 r ⟨4 * (256 * (k.val / 1024) + k.val % 256) + k.val % 1024 / 256, by omega⟩) ?_).trans ?_
  · rw [Shape.rowMajor_val_two, Shape.rowMajor_val_four]
    show r.val * 4096 + (4 * (256 * (k.val / 1024) + k.val % 256) + k.val % 1024 / 256)
      = ((r.val * 4 + k.val / 1024) * 256 + k.val % 256) * 4 + k.val % 1024 / 256
    omega
  rfl

theorem V_v3 (r : Fin 1152) (l : Fin 128) :
    (V m c main_v3 : S1152x128.Idx → EReal) (ix2 r l) = (m ((c : Thread nD τ).loc main_arg1) : S1152x1.Idx → EReal) (ix2 r 0) := by
  have h : (V m c main_v3 : S1152x128.Idx → EReal) = broadcastInDim S1152x128 ![0, 1] bcast_S1152x1_S1152x128_0_1 (m ((c : Thread nD τ).loc main_arg1)) := by
    dsimp only [V, hostOps0]; after_results
  rw [h]
  pointwise

theorem V_v4 (n : Fin 4096) :
    (V m c main_v4 : S1x4096.Idx → EReal) (ix2 0 n) = (m ((c : Thread nD τ).loc main_arg4) : S4096.Idx → EReal) (ix1 n) := by
  have h : (V m c main_v4 : S1x4096.Idx → EReal) = shapeCast S1x4096 (m ((c : Thread nD τ).loc main_arg4)) shapeCasts_S4096_S1x4096 := by
    dsimp only [V, hostOps0]; after_results; rfl
  rw [h]
  refine shapeCast_apply _ _ _ (ix1 n) ?_
  rw [Shape.rowMajor_val_two, Shape.rowMajor_val_one]
  show n.val = 0 * 4096 + n.val
  omega

/-! ## The blocks -/

theorem blk0 (r : Fin 1152) (k : Fin 4096) :
    (iblk m c 0 t : S1152x4096.Idx → EReal) (ix2 r k) = codeAt (m ((c : Thread nD τ).loc main_arg0)) r (slot k) (grp k) := by
  rw [← V_v2 m c]
  unfold iblk
  rw [View.read_apply, cast_eq]
  refine congrArg _ (funext (Fin.forall_fin_two.2 ⟨Fin.ext ?_, Fin.ext ?_⟩))
  · show cc0_transform_0 (grid0.coords t) 0 * 1152 + 1 * r.val = r.val
    rw [(idx0 t).1]; omega
  · show cc0_transform_0 (grid0.coords t) 1 * 4096 + 1 * k.val = k.val
    rw [(idx0 t).2]; omega

theorem blk1 (r : Fin 1152) (l : Fin 128) :
    (iblk m c 1 t : S1152x128.Idx → EReal) (ix2 r l) = (m ((c : Thread nD τ).loc main_arg1) : S1152x1.Idx → EReal) (ix2 r 0) := by
  rw [← V_v3 m c r l]
  unfold iblk
  rw [View.read_apply, cast_eq]
  refine congrArg _ (funext (Fin.forall_fin_two.2 ⟨Fin.ext ?_, Fin.ext ?_⟩))
  · show cc0_transform_1 (grid0.coords t) 0 * 1152 + 1 * r.val = r.val
    rw [(idx1 t).1]; omega
  · show cc0_transform_1 (grid0.coords t) 1 * 128 + 1 * l.val = l.val
    rw [(idx1 t).2]; omega

theorem blk2 (n : Fin 256) (k : Fin 2048) :
    (iblk m c 2 t : S256x2048.Idx → BitVec 8) (ix2 n k) = (m ((c : Thread nD τ).loc main_arg2) : S4096x2048.Idx → BitVec 8) (ix2 ⟨256 * t.val + n.val, by have := tlt t; omega⟩ k) := by
  rw [← V_main_arg2 m c]
  unfold iblk
  rw [View.read_apply, cast_eq]
  refine congrArg _ (funext (Fin.forall_fin_two.2 ⟨Fin.ext ?_, Fin.ext ?_⟩))
  · show cc0_transform_2 (grid0.coords t) 0 * 256 + 1 * n.val = 256 * t.val + n.val
    rw [(idx2 t).1]; omega
  · show cc0_transform_2 (grid0.coords t) 1 * 2048 + 1 * k.val = k.val
    rw [(idx2 t).2]; omega

theorem blk3 (n : Fin 256) (k : Fin 256) :
    (iblk m c 3 t : S256x256.Idx → BitVec 16) (ix2 n k) = (m ((c : Thread nD τ).loc main_arg3) : S4096x256.Idx → BitVec 16) (ix2 ⟨256 * t.val + n.val, by have := tlt t; omega⟩ k) := by
  rw [← V_main_arg3 m c]
  unfold iblk
  rw [View.read_apply, cast_eq]
  refine congrArg _ (funext (Fin.forall_fin_two.2 ⟨Fin.ext ?_, Fin.ext ?_⟩))
  · show cc0_transform_3 (grid0.coords t) 0 * 256 + 1 * n.val = 256 * t.val + n.val
    rw [(idx3 t).1]; omega
  · show cc0_transform_3 (grid0.coords t) 1 * 256 + 1 * k.val = k.val
    rw [(idx3 t).2]; omega

theorem blk4 (n : Fin 256) :
    (iblk m c 4 t : S1x256.Idx → EReal) (ix2 0 n) = (m ((c : Thread nD τ).loc main_arg4) : S4096.Idx → EReal) (ix1 ⟨256 * t.val + n.val, by have := tlt t; omega⟩) := by
  rw [← V_v4 m c]
  unfold iblk
  rw [View.read_apply, cast_eq]
  refine congrArg _ (funext (Fin.forall_fin_two.2 ⟨Fin.ext ?_, Fin.ext ?_⟩))
  · show cc0_transform_4 (grid0.coords t) 0 * 1 + 1 * 0 = 0
    rw [(idx4 t).1]
  · show cc0_transform_4 (grid0.coords t) 1 * 256 + 1 * n.val = 256 * t.val + n.val
    rw [(idx4 t).2]; omega

theorem blk5 (r : Fin 1152) (n : Fin 256) :
    (iblk m c 5 t : S1152x256.Idx → EReal) (ix2 r n) = (m ((c : Thread nD τ).loc main_arg5) : S1152x4096.Idx → EReal) (ix2 r ⟨256 * t.val + n.val, by have := tlt t; omega⟩) := by
  rw [← V_main_arg5 m c]
  unfold iblk
  rw [View.read_apply, cast_eq]
  refine congrArg _ (funext (Fin.forall_fin_two.2 ⟨Fin.ext ?_, Fin.ext ?_⟩))
  · show cc0_transform_5 (grid0.coords t) 0 * 1152 + 1 * r.val = r.val
    rw [(idx5 t).1]; omega
  · show cc0_transform_5 (grid0.coords t) 1 * 256 + 1 * n.val = 256 * t.val + n.val
    rw [(idx5 t).2]; omega

/-! ## The result array -/

/-- The result array that the arguments determine. -/
def valOf (r : Fin 1152) (n : Fin 4096) : EReal :=
  outProj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r n

/-- The metadata argument's nibbles are all ordered. -/
def MetaOk : Prop := AllOrdered (R := 4096) (K := 256) (m ((c : Thread nD τ).loc main_arg3))

theorem rowDot_eq (a : Vec Ideal S1152x4096 .fp8e4m3) (v : Vec Ideal S256x2048 .i8) (mt : Vec Ideal S256x256 .i16)
    (C : (⟨2, ![1152, 4096]⟩ : Shape).Idx → EReal) (V : (⟨2, ![4096, 2048]⟩ : Shape).Idx → BitVec 8)
    (M : (⟨2, ![4096, 256]⟩ : Shape).Idx → BitVec 16) (ho : AllOrdered M) (r : Fin 1152) (n : Fin 256) (R : Fin 256 → Fin 4096)
    (ha : ∀ k, a (ix2 r k) = codeAt C r (slot k) (grp k)) (hv : ∀ n k, v (ix2 n k) = V (ix2 (R n) k))
    (hm : ∀ n k, mt (ix2 n k) = M (ix2 (R n) k)) :
    rowDot a (wts v mt) r n = sparseDot (codeAt C r) (wByte V M (R n)) := by
  have ho' : AllOrdered (R := 256) (K := 256) mt := by
    intro i t
    have hi : i = ix2 (i 0) (i 1) := by funext a; match a with | ⟨0, _⟩ => rfl | ⟨1, _⟩ => rfl
    rw [hi]
    exact Eq.mp (congrArg (fun b => Ordered (nibble b t.val)) (hm (i 0) (i 1)).symm) (ho _ t)
  unfold rowDot
  rw [← sum_chan]
  refine Finset.sum_congr rfl fun k _ => ?_
  rw [ha]
  refine congrArg _ ((wts_apply v mt ho' n k).trans ?_)
  show dec (wByte v mt n (grp k) (slot k)) = dec (wByte V M (R n) (grp k) (slot k))
  unfold wByte
  rw [hv, hv, hm]

/-- The block that a point leaves. -/
theorem out_val (ho : MetaOk m c) (t : Fin cfg0.N) (r : Fin 1152) (n : Fin 256) :
    (outsAt0 m c t : S1152x256.Idx → EReal) (ix2 r n) = valOf m c r ⟨256 * t.val + n.val, by have := tlt t; omega⟩ := by
  have e : outsAt0 m c t = block (iblk m c 0 t) (iblk m c 1 t) (wts (iblk m c 2 t) (iblk m c 3 t)) (iblk m c 4 t) (iblk m c 5 t) := by
    unfold outsAt0; exact out_eq ..
  rw [e]
  refine (block_apply _ _ (fun r => (m ((c : Thread nD τ).loc main_arg1) : S1152x1.Idx → EReal) (ix2 r 0)) _ _ _ (fun r l => blk1 m c t r l) r n).trans ?_
  unfold elemAt valOf outProj
  refine congr (congrArg HAdd.hAdd (blk5 m c t r n)) (congr (congrArg HMul.hMul (congrArg (· * _) ?_)) (blk4 m c t n))
  exact rowDot_eq _ _ _ _ _ _ ho r n (fun n => ⟨256 * t.val + n.val, by have := tlt t; omega⟩) (fun k => blk0 m c t r k)
      (fun n k => blk2 m c t n k) (fun n k => blk3 m c t n k)

/-- The result array after the run. -/
theorem final_val (ho : MetaOk m c) (r : Fin 1152) (j : Fin 4096) :
    ((dats m 0 c).arrAt 6 cfg0.N : S1152x4096.Idx → EReal) (ix2 r j) = valOf m c r j := by
  have hj := j.isLt
  have hN : j.val / 256 < cfg0.N := lt_of_lt_of_eq (by omega) N_0.symm
  have h := congrFun (Cert.OutProjIdeal.Value.blocks6 m c ⟨j.val / 256, hN⟩ (flush0_6 _)) (ix2 r ⟨j.val % 256, by omega⟩)
  rw [Cert.OutProjIdeal.Value.flushed6, View.read_apply, cast_eq] at h
  have e := out_val m c ho ⟨j.val / 256, hN⟩ r ⟨j.val % 256, by omega⟩
  refine Eq.trans (congrArg _ (funext (Fin.forall_fin_two.2 ⟨Fin.ext ?_, Fin.ext ?_⟩))) (h.trans (e.trans (congrArg (valOf m c r) (Fin.ext ?_))))
  · show r.val = cc0_transform_6 (grid0.coords ⟨j.val / 256, hN⟩) 0 * 1152 + 1 * r.val
    rw [(idx6 _).1]; omega
  · show j.val = cc0_transform_6 (grid0.coords ⟨j.val / 256, hN⟩) 1 * 256 + 1 * (j.val % 256)
    rw [(idx6 _).2]; show j.val = j.val / 256 * 256 + 1 * (j.val % 256); omega
  · show 256 * (j.val / 256) + j.val % 256 = j.val
    omega

end Cert.OutProjTile
-- ==== Proof.Own.OutRef.lean ====
/- What the output projection's reference computes, as a function of its arguments. -/
module

public import proofs.«01_k».proof.Proof.Gen.OutProjRefIdeal.Value
public import proofs.«01_k».proof.Proof.Own.RefTile
public import proofs.«01_k».proof.Proof.Own.OutPoints

@[expose] public section

set_option maxRecDepth 16384

noncomputable section

namespace Cert.OutProjRefTile

open Cert.OutProjRefIdeal Cert.OutProjRefIdeal.Gen Cert.Sparse
open Cert.GateUpRefTile (select_plane two_zero)
open Idealize.ShloMosaic Idealize.ShloMosaic.TcCoe Idealize.SL.Sem

section
variable (nib : Vec Ideal S4096x1024 .i32) (v0 v1 : Vec Ideal S4096x1024 .i8) (c0 c1 c2 c3 : Vec Ideal S1152x1024 .fp8e4m3)
  (s : Vec Ideal S1152x1 .f32) (sc : Vec Ideal S1x4096 .f32) (x : Vec Ideal S1152x4096 .bf16)

/-- The product of a row of codes with one slot of a weight row. -/
def slotOf (j : BitVec 32) (x : Vec Ideal S1152x1024 .fp8e4m3) (r : Fin 1152) (n : Fin 4096) : EReal :=
  slotDot (fun g => x (ix2 r g)) (fun g => plane j (nib (ix2 n g)) (v0 (ix2 n g)) (v1 (ix2 n g)))

theorem pay7_apply (r : Fin 1152) (n : Fin 4096) :
    k0_pay7 nib v0 v1 c0 c1 (ix2 r n) = slotOf nib v0 v1 0#32 c0 r n + slotOf nib v0 v1 1#32 c1 r n := by
  unfold k0_pay7 k0_pay3 k0_pay4 k0_pay5 k0_pay6 k0_pay2 slotOf slotDot
  pointwise
  simp only [select_plane]
  rfl

/-- The product of a row of codes with a whole weight row. -/
def refDot (r : Fin 1152) (n : Fin 4096) : EReal :=
  slotOf nib v0 v1 0#32 c0 r n + slotOf nib v0 v1 1#32 c1 r n + slotOf nib v0 v1 2#32 c2 r n + slotOf nib v0 v1 3#32 c3 r n

/-- The array the reference stores. -/
def refVal : FVec Ideal S1152x4096 .f32 :=
  k0_pay1 (k0_pay3 nib) (k0_pay4 nib) (k0_pay5 v0) (k0_pay6 v1) (k0_pay7 nib v0 v1 c0 c1) (k0_pay8 nib) (k0_pay9 nib) 0#8 c2 c3 x s sc

theorem pay1_apply (p : FVec Ideal S1152x4096 .f32) (r : Fin 1152) (n : Fin 4096) :
    k0_pay1 (k0_pay3 nib) (k0_pay4 nib) (k0_pay5 v0) (k0_pay6 v1) p (k0_pay8 nib) (k0_pay9 nib) 0#8 c2 c3 x s sc (ix2 r n)
      = (x (ix2 r n) : EReal) + (p (ix2 r n) + slotOf nib v0 v1 2#32 c2 r n + slotOf nib v0 v1 3#32 c3 r n) * (s (ix2 r 0) : EReal) * (sc (ix2 0 n) : EReal) := by
  unfold k0_pay1 k0_pay8 k0_pay9 k0_pay3 k0_pay4 k0_pay5 k0_pay6 k0_pay2 slotOf slotDot
  pointwise
  simp only [select_plane]
  rfl

theorem refVal_apply (r : Fin 1152) (n : Fin 4096) :
    refVal nib v0 v1 c0 c1 c2 c3 s sc x (ix2 r n)
      = (x (ix2 r n) : EReal) + refDot nib v0 v1 c0 c1 c2 c3 r n * (s (ix2 r 0) : EReal) * (sc (ix2 0 n) : EReal) := by
  unfold refVal refDot
  rw [pay1_apply, pay7_apply]

theorem ld_w {e : EltTy} (x : Vec Ideal S4096x1024 e) : View.ld (Val := Elt Ideal) (e' := e) x r0_0 = x :=
  View.ld_unit_lit (S := S4096x1024) _ _ two_zero
theorem ld_c {e : EltTy} (x : Vec Ideal S1152x1024 e) : View.ld (Val := Elt Ideal) (e' := e) x r0_1 = x :=
  View.ld_unit_lit (S := S1152x1024) _ _ two_zero
theorem ld_x {e : EltTy} (x : Vec Ideal S1152x4096 e) : View.ld (Val := Elt Ideal) (e' := e) x r0_2 = x :=
  View.ld_unit_lit (S := S1152x4096) _ _ two_zero
theorem ld_s {e : EltTy} (x : Vec Ideal S1152x1 e) : View.ld (Val := Elt Ideal) (e' := e) x r0_3 = x :=
  View.ld_unit_lit (S := S1152x1) _ _ two_zero
theorem ld_sc {e : EltTy} (x : Vec Ideal S1x4096 e) : View.ld (Val := Elt Ideal) (e' := e) x r0_4 = x :=
  View.ld_unit_lit (S := S1x4096) _ _ two_zero

/-- The block the reference leaves. -/
theorem out_val : out0_10 c0 c1 c2 c3 s v0 v1 nib sc x = refVal nib v0 v1 c0 c1 c2 c3 s sc x := by
  unfold out0_10 refVal
  rw [ld_w, ld_w, ld_w, ld_c, ld_c, ld_c, ld_c, ld_s, ld_sc, ld_x]
  exact View.canon_cons_unit_lit (S := S1152x4096) _ _ _ two_zero

end

variable (m : (ℓ : Loc nD τ sig) → Buf (Elt Ideal) ℓ) (c : Dev nD) (t : Fin cfg0.N)

/-! ## The host operations before the call -/

theorem V_v0 (r : Fin 1152) (g : Fin 1024) :
    (V m c main_v0 : S1152x1024.Idx → EReal) (ix2 r g) = codeAt (m ((c : Thread nD τ).loc main_arg0)) r 0 g := by
  have h : (V m c main_v0 : S1152x1024.Idx → EReal)
      = Host.slice S1152x1024 ![0, 0] ![1, 4] (m ((c : Thread nD τ).loc main_arg0)) slicesBy_S1152x4096_S1152x1024_0s1_0s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 0 + 4 * g.val = 4 * g.val + 0; omega

theorem V_v1 (r : Fin 1152) (g : Fin 1024) :
    (V m c main_v1 : S1152x1024.Idx → EReal) (ix2 r g) = codeAt (m ((c : Thread nD τ).loc main_arg0)) r 1 g := by
  have h : (V m c main_v1 : S1152x1024.Idx → EReal)
      = Host.slice S1152x1024 ![0, 1] ![1, 4] (m ((c : Thread nD τ).loc main_arg0)) slicesBy_S1152x4096_S1152x1024_0s1_1s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 1 + 4 * g.val = 4 * g.val + 1; omega

theorem V_v2 (r : Fin 1152) (g : Fin 1024) :
    (V m c main_v2 : S1152x1024.Idx → EReal) (ix2 r g) = codeAt (m ((c : Thread nD τ).loc main_arg0)) r 2 g := by
  have h : (V m c main_v2 : S1152x1024.Idx → EReal)
      = Host.slice S1152x1024 ![0, 2] ![1, 4] (m ((c : Thread nD τ).loc main_arg0)) slicesBy_S1152x4096_S1152x1024_0s1_2s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 2 + 4 * g.val = 4 * g.val + 2; omega

theorem V_v3 (r : Fin 1152) (g : Fin 1024) :
    (V m c main_v3 : S1152x1024.Idx → EReal) (ix2 r g) = codeAt (m ((c : Thread nD τ).loc main_arg0)) r 3 g := by
  have h : (V m c main_v3 : S1152x1024.Idx → EReal)
      = Host.slice S1152x1024 ![0, 3] ![1, 4] (m ((c : Thread nD τ).loc main_arg0)) slicesBy_S1152x4096_S1152x1024_0s1_3s4 := by
    dsimp only [V, hostOps0]; after_results
  rw [h]
  unfold codeAt
  refine congrArg (m ((c : Thread nD τ).loc main_arg0) : S1152x4096.Idx → EReal) (funext (Fin.forall_fin_two.2 ⟨Fin.ext ?_, Fin.ext ?_⟩))
  · show 0 + 1 * r.val = r.val; omega
  · show 3 + 4 * g.val = 4 * g.val + 3; omega

theorem V_v4 (n : Fin 4096) (g : Fin 1024) :
    (V m c main_v4 : S4096x1024.Idx → BitVec 8) (ix2 n g)
      = (m ((c : Thread nD τ).loc main_arg2) : S4096x2048.Idx → BitVec 8) (ix2 n ⟨2 * g.val, by omega⟩) := by
  have h : (V m c main_v4 : S4096x1024.Idx → BitVec 8)
      = Host.slice S4096x1024 ![0, 0] ![1, 2] (m ((c : Thread nD τ).loc main_arg2)) slicesBy_S4096x2048_S4096x1024_0s1_0s2 := by
    dsimp only [V, hostOps0]; after_results
  rw [h]
  refine congrArg (m ((c : Thread nD τ).loc main_arg2) : S4096x2048.Idx → BitVec 8) (funext (Fin.forall_fin_two.2 ⟨Fin.ext ?_, Fin.ext ?_⟩))
  · show 0 + 1 * n.val = n.val; omega
  · show 0 + 2 * g.val = 2 * g.val; omega

theorem V_v5 (n : Fin 4096) (g : Fin 1024) :
    (V m c main_v5 : S4096x1024.Idx → BitVec 8) (ix2 n g)
      = (m ((c : Thread nD τ).loc main_arg2) : S4096x2048.Idx → BitVec 8) (ix2 n ⟨2 * g.val + 1, by omega⟩) := by
  have h : (V m c main_v5 : S4096x1024.Idx → BitVec 8)
      = Host.slice S4096x1024 ![0, 1] ![1, 2] (m ((c : Thread nD τ).loc main_arg2)) slicesBy_S4096x2048_S4096x1024_0s1_1s2 := by
    dsimp only [V, hostOps0]; after_results
  rw [h]
  refine congrArg (m ((c : Thread nD τ).loc main_arg2) : S4096x2048.Idx → BitVec 8) (funext (Fin.forall_fin_two.2 ⟨Fin.ext ?_, Fin.ext ?_⟩))
  · show 0 + 1 * n.val = n.val; omega
  · show 1 + 2 * g.val = 2 * g.val + 1; omega

theorem V_v17 (n : Fin 4096) (g : Fin 1024) :
    (V m c main_v17 : S4096x1024.Idx → BitVec 32) (ix2 n g)
      = nibble ((m ((c : Thread nD τ).loc main_arg3) : S4096x256.Idx → BitVec 16) (ix2 n ⟨g.val / 4, by omega⟩)) (g.val % 4) := by
  have h : (V m c main_v17 : S4096x1024.Idx → BitVec 32)
      = shapeCast S4096x1024 (andi (Host.shrsi
          (broadcastInDim S4096x256x4 ![0, 1, 2] bcast_S4096x256x1_S4096x256x4_0_1_2 (broadcastInDim S4096x256x1 ![0, 1] bcast_S4096x256_S4096x256x1_0_1
            (extui 32 (m ((c : Thread nD τ).loc main_arg3)) natLt_16_32)))
          (broadcastInDim S4096x256x4 ![0, 1, 2] bcast_S1x1x4_S4096x256x4_0_1_2 (broadcastInDim S1x1x4 ![2] bcast_S4_S1x1x4_2
            (muli (broadcastInDim S4 ![] bcast_S_S4 (constantI S_ 32 4#32)) (iotaInDim S4 32 0)))))
          (broadcastInDim S4096x256x4 ![] bcast_S_S4096x256x4 (constantI S_ 32 15#32))) shapeCasts_S4096x256x4_S4096x1024 := by
    dsimp only [V, hostOps0]; after_results; rfl
  have hg := g.isLt
  rw [h]
  refine (shapeCast_apply _ _ _ (ix3 n ⟨g.val / 4, by omega⟩ ⟨g.val % 4, by omega⟩) ?_).trans ?_
  · rw [Shape.rowMajor_val_two, Shape.rowMajor_val_three]
    show (n.val * 256 + g.val / 4) * 4 + g.val % 4 = n.val * 1024 + g.val
    omega
  pointwise
  generalize (m ((c : Thread nD τ).loc main_arg3) : S4096x256.Idx → BitVec 16) (ix2 n ⟨g.val / 4, by omega⟩) = w
  have hq : g.val % 4 = 0 ∨ g.val % 4 = 1 ∨ g.val % 4 = 2 ∨ g.val % 4 = 3 := by omega
  rcases hq with e | e | e | e <;> rw [e] <;> rfl

theorem V_v18 (n : Fin 4096) :
    (V m c main_v18 : S1x4096.Idx → EReal) (ix2 0 n) = (m ((c : Thread nD τ).loc main_arg4) : S4096.Idx → EReal) (ix1 n) := by
  have h : (V m c main_v18 : S1x4096.Idx → EReal) = shapeCast S1x4096 (m ((c : Thread nD τ).loc main_arg4)) shapeCasts_S4096_S1x4096 := by
    dsimp only [V, hostOps0]; after_results; rfl
  rw [h]
  refine shapeCast_apply _ _ _ (ix1 n) ?_
  rw [Shape.rowMajor_val_two, Shape.rowMajor_val_one]
  show n.val = 0 * 4096 + n.val
  omega

/-! ## The blocks -/

theorem blk0 (i : Fin 1152) (k : Fin 1024) :
    (iblk m c 0 t : S1152x1024.Idx → EReal) (ix2 i k) = (V m c main_v0 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk1 (i : Fin 1152) (k : Fin 1024) :
    (iblk m c 1 t : S1152x1024.Idx → EReal) (ix2 i k) = (V m c main_v1 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk2 (i : Fin 1152) (k : Fin 1024) :
    (iblk m c 2 t : S1152x1024.Idx → EReal) (ix2 i k) = (V m c main_v2 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk3 (i : Fin 1152) (k : Fin 1024) :
    (iblk m c 3 t : S1152x1024.Idx → EReal) (ix2 i k) = (V m c main_v3 : S1152x1024.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1024 + 1 * k.val = k.val
    omega

theorem blk4 (i : Fin 1152) (k : Fin 1) :
    (iblk m c 4 t : S1152x1.Idx → EReal) (ix2 i k) = (V m c main_arg1 : S1152x1.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 1 + 1 * k.val = k.val
    omega

theorem blk5 (i : Fin 4096) (k : Fin 1024) :
    (iblk m c 5 t : S4096x1024.Idx → BitVec 8) (ix2 i k) = (V m c main_v4 : S4096x1024.Idx → BitVec 8) (ix2 i k) := by
  unfold iblk
  rw [View.read_apply, cast_eq]
  refine congrArg _ (funext (Fin.forall_fin_two.2 ⟨Fin.ext ?_, Fin.ext ?_⟩))
  · show 0 * 4096 + 1 * i.val = i.val
    omega
  · show 0 * 1024 + 1 * k.val = k.val
    omega

theorem blk6 (i : Fin 4096) (k : Fin 1024) :
    (iblk m c 6 t : S4096x1024.Idx → BitVec 8) (ix2 i k) = (V m c main_v5 : S4096x1024.Idx → BitVec 8) (ix2 i k) := by
  unfold iblk
  rw [View.read_apply, cast_eq]
  refine congrArg _ (funext (Fin.forall_fin_two.2 ⟨Fin.ext ?_, Fin.ext ?_⟩))
  · show 0 * 4096 + 1 * i.val = i.val
    omega
  · show 0 * 1024 + 1 * k.val = k.val
    omega

theorem blk7 (i : Fin 4096) (k : Fin 1024) :
    (iblk m c 7 t : S4096x1024.Idx → BitVec 32) (ix2 i k) = (V m c main_v17 : S4096x1024.Idx → BitVec 32) (ix2 i k) := by
  unfold iblk
  rw [View.read_apply, cast_eq]
  refine congrArg _ (funext (Fin.forall_fin_two.2 ⟨Fin.ext ?_, Fin.ext ?_⟩))
  · show 0 * 4096 + 1 * i.val = i.val
    omega
  · show 0 * 1024 + 1 * k.val = k.val
    omega

theorem blk8 (i : Fin 1) (k : Fin 4096) :
    (iblk m c 8 t : S1x4096.Idx → EReal) (ix2 i k) = (V m c main_v18 : S1x4096.Idx → EReal) (ix2 i k) := by
  unfold iblk
  rw [View.read_apply, cast_eq]
  refine congrArg _ (funext (Fin.forall_fin_two.2 ⟨Fin.ext ?_, Fin.ext ?_⟩))
  · show 0 * 1 + 1 * i.val = i.val
    omega
  · show 0 * 4096 + 1 * k.val = k.val
    omega

theorem blk9 (i : Fin 1152) (k : Fin 4096) :
    (iblk m c 9 t : S1152x4096.Idx → EReal) (ix2 i k) = (V m c main_arg5 : S1152x4096.Idx → EReal) (ix2 i k) := by
  unfold iblk
  rw [View.read_apply, cast_eq]
  refine congrArg _ (funext (Fin.forall_fin_two.2 ⟨Fin.ext ?_, Fin.ext ?_⟩))
  · show 0 * 1152 + 1 * i.val = i.val
    omega
  · show 0 * 4096 + 1 * k.val = k.val
    omega

theorem slot_of (j : Fin 4) (x : Vec Ideal S1152x1024 .fp8e4m3) (r : Fin 1152) (n : Fin 4096)
    (hx : ∀ g, (x : S1152x1024.Idx → EReal) (ix2 r g) = codeAt (m ((c : Thread nD τ).loc main_arg0)) r j g) :
    slotOf (iblk m c 7 t) (iblk m c 5 t) (iblk m c 6 t) (BitVec.ofNat 32 j.val) x r n
      = slotDot (codeAt (m ((c : Thread nD τ).loc main_arg0)) r j)
          (fun g => wByte (m ((c : Thread nD τ).loc main_arg2)) (m ((c : Thread nD τ).loc main_arg3)) n g j) := by
  unfold slotOf
  refine congrArg₂ slotDot (funext hx) (funext fun g => ?_)
  unfold wByte
  refine congr (congr (congrArg (plane (BitVec.ofNat 32 j.val)) ((blk7 m c t n g).trans (V_v17 m c n g))) ((blk5 m c t n g).trans (V_v4 m c n g))) ((blk6 m c t n g).trans (V_v5 m c n g))

theorem ref_dot (r : Fin 1152) (n : Fin 4096) :
    refDot (iblk m c 7 t) (iblk m c 5 t) (iblk m c 6 t) (iblk m c 0 t) (iblk m c 1 t) (iblk m c 2 t) (iblk m c 3 t) r n
      = sparseDot (codeAt (m ((c : Thread nD τ).loc main_arg0)) r)
          (wByte (m ((c : Thread nD τ).loc main_arg2)) (m ((c : Thread nD τ).loc main_arg3)) n) := by
  unfold refDot sparseDot
  exact congrArg₂ (· + ·) (congrArg₂ (· + ·) (congrArg₂ (· + ·)
    (slot_of m c t 0 _ r n fun g => (blk0 m c t r g).trans (V_v0 m c r g))
    (slot_of m c t 1 _ r n fun g => (blk1 m c t r g).trans (V_v1 m c r g)))
    (slot_of m c t 2 _ r n fun g => (blk2 m c t r g).trans (V_v2 m c r g)))
    (slot_of m c t 3 _ r n fun g => (blk3 m c t r g).trans (V_v3 m c r g))

/-- The array that the reference's arguments determine. -/
def valOf (r : Fin 1152) (n : Fin 4096) : EReal :=
  outProj (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) r n

theorem ref_val (r : Fin 1152) (n : Fin 4096) :
    refVal (iblk m c 7 t) (iblk m c 5 t) (iblk m c 6 t) (iblk m c 0 t) (iblk m c 1 t) (iblk m c 2 t) (iblk m c 3 t) (iblk m c 4 t) (iblk m c 8 t) (iblk m c 9 t) (ix2 r n)
      = valOf m c r n := by
  rw [refVal_apply, ref_dot]
  unfold valOf outProj
  refine congr (congrArg HAdd.hAdd ((blk9 m c t r n).trans (congrFun (V_main_arg5 m c) _))) (congr (congrArg HMul.hMul (congrArg (HMul.hMul _) ?_)) ((blk8 m c t 0 n).trans (V_v18 m c n)))
  exact (blk4 m c t r 0).trans (congrFun (V_main_arg1 m c) _)

/-- The result array after the run. -/
theorem final_val (r : Fin 1152) (j : Fin 4096) :
    ((dats m 0 c).arrAt 10 cfg0.N : S1152x4096.Idx → EReal) (ix2 r j) = valOf m c r j := by
  have hN : 0 < cfg0.N := by decide
  have h := congrFun (Cert.OutProjRefIdeal.Value.blocks10 m c ⟨0, hN⟩ (flush0_10 _)) (ix2 r j)
  rw [Cert.OutProjRefIdeal.Value.flushed10, View.read_apply, cast_eq, out_val] at h
  refine Eq.trans (congrArg _ (funext (Fin.forall_fin_two.2 ⟨Fin.ext ?_, Fin.ext ?_⟩))) (h.trans (ref_val m c ⟨0, hN⟩ r j))
  · show r.val = 0 * 1152 + 1 * r.val
    omega
  · show j.val = 0 * 4096 + 1 * j.val
    omega

end Cert.OutProjRefTile
-- ==== Proof.Own.MetaOut.lean ====
/- The precondition of the value claim of the output projection, read at a metadata word. -/
module

public import proofs.«01_k».proof.Proof.Gen.Pre_valid_meta_out
public import proofs.«01_k».proof.Proof.Own.Meta

@[expose] public section

set_option maxRecDepth 16384

noncomputable section

namespace Cert.Sparse

open Idealize.ShloMosaic

theorem fn_out_apply (a0 : FVec Ideal Pre_valid_meta_out.S1152x4096 .fp8e4m3) (a1 : FVec Ideal Pre_valid_meta_out.S1152x1 .f32)
    (a2 : IVec Pre_valid_meta_out.S4096x2048 8) (a3 : IVec Pre_valid_meta_out.S4096x256 16) (a4 : FVec Ideal Pre_valid_meta_out.S4096 .f32) (a5 : FVec Ideal Pre_valid_meta_out.S1152x4096 .bf16)
    (i : Pre_valid_meta_out.S4096x256.Idx) :
    Pre_valid_meta_out.fn (F := Ideal) a0 a1 a2 a3 a4 a5 i
      = IntOp.andi (IntOp.andi (IntOp.andi (okBit (a3 i) 0#32) (okBit (a3 i) 4#32)) (okBit (a3 i) 8#32)) (okBit (a3 i) 12#32) := rfl

/-- Where the precondition's array is all ones, every nibble is ordered. -/
theorem allOrdered_of_fn_out (a0 : FVec Ideal Pre_valid_meta_out.S1152x4096 .fp8e4m3) (a1 : FVec Ideal Pre_valid_meta_out.S1152x1 .f32)
    (a2 : IVec Pre_valid_meta_out.S4096x2048 8) (a3 : IVec Pre_valid_meta_out.S4096x256 16) (a4 : FVec Ideal Pre_valid_meta_out.S4096 .f32) (a5 : FVec Ideal Pre_valid_meta_out.S1152x4096 .bf16)
    (h : ∀ i, Pre_valid_meta_out.fn (F := Ideal) a0 a1 a2 a3 a4 a5 i = 1#1) : AllOrdered (R := 4096) (K := 256) a3 := by
  intro i t
  have hi := h i
  rw [fn_out_apply] at hi
  obtain ⟨h', h3⟩ := and_one hi
  obtain ⟨h'', h2⟩ := and_one h'
  obtain ⟨h0, h1⟩ := and_one h''
  refine ordered_of_okBit _ t ?_
  fin_cases t
  · exact h0
  · exact h1
  · exact h2
  · exact h3

end Cert.Sparse
-- ==== Proof.Own.QuantTile.lean ====
/- Quantisation of a row and the normalisation of a row, as both the kernels and the references compute them. -/
module

public import proofs.«01_k».proof.Proof.Gen.NormQuantIdeal.Value
public import proofs.«01_k».proof.Proof.Gen.NormQuantRefIdeal.Value
public import proofs.«01_k».proof.Proof.Gen.QuantIdeal.Value
public import proofs.«01_k».proof.Proof.Gen.QuantRefIdeal.Value
public import proofs.«01_k».proof.Proof.Own.Spec
public import Idealize.ShloMosaic.Lib.Pipeline.ValueKit
public import Idealize.ShloMosaic.Lib.Pipeline.ReadBack

@[expose] public section

set_option maxRecDepth 16384

noncomputable section

namespace Cert.Sparse

open Idealize.ShloMosaic

/-- The scale of a row. -/
def rowScale (v : Fin 4096 → EReal) : EReal :=
  scaleOf ((Finset.univ : Finset (Fin 4096)).fold max (Ideal.ofBits .f32 0xFF800000#32) fun j => FloatOps.absf (F := Ideal) (φ := .f32) (v j))

/-- The code of a row's element. -/
def rowCode (v : Fin 4096 → EReal) (k : Fin 4096) : EReal :=
  min (Ideal.ofBits .f32 0x43E00000#32) (max (Ideal.ofBits .f32 0xC3E00000#32) (Ideal.div (v k) (rowScale v)))

/-- The element of a row over the root of the mean of its squares and `eps`, times its weight. -/
def rmsRow (x w : Fin 4096 → EReal) (k : Fin 4096) : EReal :=
  Ideal.div (x k) (Ideal.sqrt (Ideal.div (∑ j, x j * x j) (Ideal.ofBits .f32 0x45800000#32) + Ideal.ofBits .f32 0x3727C5AC#32)) * w k

end Cert.Sparse

namespace Cert.QuantIdealTile

open Cert.QuantIdeal Cert.QuantIdeal.Gen Cert.Sparse
open Idealize.ShloMosaic Idealize.ShloMosaic.TcCoe Idealize.SL.Sem

variable (x : Vec Ideal S128x4096 .f32)

theorem rowMax_apply (y : FVec Ideal S128x4096 .f32) (r : Fin 128) :
    shapeCast S128x1 (multiReduction .maximumf [1] S128 (absf y) 0xFF800000#32 reduces_S128x4096_S128 (.inl rfl) rfl) shapeCasts_S128_S128x1 (ix2 r 0)
      = (Finset.univ : Finset (Fin 4096)).fold max (Ideal.ofBits .f32 0xFF800000#32) fun j => FloatOps.absf (F := Ideal) (φ := .f32) (y (ix2 r j)) := by
  pointwise

theorem scale_apply (p : FVec Ideal S128x1 .f32) (r : Fin 128) :
    select (cmpf .oeq p (broadcast S128x1 (Scalar.ofBits .f32 0x00000000#32))) (broadcast S128x1 (Scalar.ofBits .f32 0x3F800000#32))
      (divf p (broadcast S128x1 (Scalar.ofBits .f32 0x43E00000#32))) (ix2 r 0) = scaleOf (p (ix2 r 0)) := by
  unfold scaleOf
  pointwise

theorem pay1_apply (r : Fin 128) : k0_pay1 x (ix2 r 0) = rowScale fun j => x (ix2 r j) := by
  exact (scale_apply _ r).trans (congrArg scaleOf (rowMax_apply x r))

theorem lanes_apply (p : FVec Ideal S128x1 .f32) (r : Fin 128) (l : Fin 128) :
    broadcastTo S128x128 (shapeCast S128x1 p shapeCasts_S128x1_S128x1) broadcasts_S128x1_S128x128 (ix2 r l) = p (ix2 r 0) := by
  pointwise

theorem codes_apply (y : FVec Ideal S128x4096 .f32) (p : FVec Ideal S128x1 .f32) (r : Fin 128) (k : Fin 4096) :
    truncf .fp8e4m3 (minimumf (broadcast S128x4096 (Scalar.ofBits .f32 0x43E00000#32)) (maximumf (broadcast S128x4096 (Scalar.ofBits .f32 0xC3E00000#32))
      (divf y (broadcastTo S128x4096 p broadcasts_S128x1_S128x4096)))) bitsLt_fp8e4m3_f32 (ix2 r k)
      = min (Ideal.ofBits .f32 0x43E00000#32) (max (Ideal.ofBits .f32 0xC3E00000#32) (Ideal.div (y (ix2 r k)) (p (ix2 r 0)))) := by
  pointwise

theorem pay2_apply (r : Fin 128) (k : Fin 4096) : k0_pay2 x (ix2 r k) = rowCode (fun j => x (ix2 r j)) k := by
  refine (codes_apply x (k0_pay1 x) r k).trans ?_
  rw [pay1_apply]; rfl

theorem pay3_apply (r : Fin 128) (l : Fin 128) : k0_pay3 x (ix2 r l) = rowScale fun j => x (ix2 r j) := by
  exact (lanes_apply (k0_pay1 x) r l).trans (pay1_apply x r)

end Cert.QuantIdealTile

namespace Cert.QuantRefIdealTile

open Cert.QuantRefIdeal Cert.QuantRefIdeal.Gen Cert.Sparse
open Idealize.ShloMosaic Idealize.ShloMosaic.TcCoe Idealize.SL.Sem

variable (x : Vec Ideal S1152x4096 .f32)

theorem rowMax_apply (y : FVec Ideal S1152x4096 .f32) (r : Fin 1152) :
    shapeCast S1152x1 (multiReduction .maximumf [1] S1152 (absf y) 0xFF800000#32 reduces_S1152x4096_S1152 (.inl rfl) rfl) shapeCasts_S1152_S1152x1 (ix2 r 0)
      = (Finset.univ : Finset (Fin 4096)).fold max (Ideal.ofBits .f32 0xFF800000#32) fun j => FloatOps.absf (F := Ideal) (φ := .f32) (y (ix2 r j)) := by
  pointwise

theorem scale_apply (p : FVec Ideal S1152x1 .f32) (r : Fin 1152) :
    select (cmpf .oeq p (broadcast S1152x1 (Scalar.ofBits .f32 0x00000000#32))) (broadcast S1152x1 (Scalar.ofBits .f32 0x3F800000#32))
      (divf p (broadcast S1152x1 (Scalar.ofBits .f32 0x43E00000#32))) (ix2 r 0) = scaleOf (p (ix2 r 0)) := by
  unfold scaleOf
  pointwise

theorem pay1_apply (r : Fin 1152) : k0_pay1 x (ix2 r 0) = rowScale fun j => x (ix2 r j) := by
  exact (scale_apply _ r).trans (congrArg scaleOf (rowMax_apply x r))

theorem lanes_apply (p : FVec Ideal S1152x1 .f32) (r : Fin 1152) (l : Fin 128) :
    broadcastTo S1152x128 (shapeCast S1152x1 p shapeCasts_S1152x1_S1152x1) broadcasts_S1152x1_S1152x128 (ix2 r l) = p (ix2 r 0) := by
  pointwise

theorem codes_apply (y : FVec Ideal S1152x4096 .f32) (p : FVec Ideal S1152x1 .f32) (r : Fin 1152) (k : Fin 4096) :
    truncf .fp8e4m3 (minimumf (broadcast S1152x4096 (Scalar.ofBits .f32 0x43E00000#32)) (maximumf (broadcast S1152x4096 (Scalar.ofBits .f32 0xC3E00000#32))
      (divf y (broadcastTo S1152x4096 p broadcasts_S1152x1_S1152x4096)))) bitsLt_fp8e4m3_f32 (ix2 r k)
      = min (Ideal.ofBits .f32 0x43E00000#32) (max (Ideal.ofBits .f32 0xC3E00000#32) (Ideal.div (y (ix2 r k)) (p (ix2 r 0)))) := by
  pointwise

theorem pay2_apply (r : Fin 1152) (k : Fin 4096) : k0_pay2 x (ix2 r k) = rowCode (fun j => x (ix2 r j)) k := by
  refine (codes_apply x (k0_pay1 x) r k).trans ?_
  rw [pay1_apply]; rfl

theorem pay3_apply (r : Fin 1152) (l : Fin 128) : k0_pay3 x (ix2 r l) = rowScale fun j => x (ix2 r j) := by
  exact (lanes_apply (k0_pay1 x) r l).trans (pay1_apply x r)

end Cert.QuantRefIdealTile

namespace Cert.NormQuantIdealTile

open Cert.NormQuantIdeal Cert.NormQuantIdeal.Gen Cert.Sparse
open Idealize.ShloMosaic Idealize.ShloMosaic.TcCoe Idealize.SL.Sem

variable (x : Vec Ideal S128x4096 .bf16) (w : Vec Ideal S1x4096 .f32)

/-- The normalised row. -/
def nrow (r : Fin 128) : Fin 4096 → EReal := rmsRow (fun j => x (ix2 r j)) (fun j => w (ix2 0 j))

theorem pay1_apply (r : Fin 128) (k : Fin 4096) : k0_pay1 x w (ix2 r k) = nrow x w r k := by
  unfold k0_pay1 nrow rmsRow
  pointwise

theorem rowMax_apply (y : FVec Ideal S128x4096 .f32) (r : Fin 128) :
    shapeCast S128x1 (multiReduction .maximumf [1] S128 (absf y) 0xFF800000#32 reduces_S128x4096_S128 (.inl rfl) rfl) shapeCasts_S128_S128x1 (ix2 r 0)
      = (Finset.univ : Finset (Fin 4096)).fold max (Ideal.ofBits .f32 0xFF800000#32) fun j => FloatOps.absf (F := Ideal) (φ := .f32) (y (ix2 r j)) := by
  pointwise

theorem scale_apply (p : FVec Ideal S128x1 .f32) (r : Fin 128) :
    select (cmpf .oeq p (broadcast S128x1 (Scalar.ofBits .f32 0x00000000#32))) (broadcast S128x1 (Scalar.ofBits .f32 0x3F800000#32))
      (divf p (broadcast S128x1 (Scalar.ofBits .f32 0x43E00000#32))) (ix2 r 0) = scaleOf (p (ix2 r 0)) := by
  unfold scaleOf
  pointwise

theorem pay2_apply (r : Fin 128) : k0_pay2 x w (ix2 r 0) = rowScale (nrow x w r) := by
  rw [show nrow x w r = fun j => k0_pay1 x w (ix2 r j) from funext fun j => (pay1_apply x w r j).symm]
  exact (scale_apply _ r).trans (congrArg scaleOf (rowMax_apply (k0_pay1 x w) r))

theorem lanes_apply (p : FVec Ideal S128x1 .f32) (r : Fin 128) (l : Fin 128) :
    broadcastTo S128x128 (shapeCast S128x1 p shapeCasts_S128x1_S128x1) broadcasts_S128x1_S128x128 (ix2 r l) = p (ix2 r 0) := by
  pointwise

theorem codes_apply (y : FVec Ideal S128x4096 .f32) (p : FVec Ideal S128x1 .f32) (r : Fin 128) (k : Fin 4096) :
    truncf .fp8e4m3 (minimumf (broadcast S128x4096 (Scalar.ofBits .f32 0x43E00000#32)) (maximumf (broadcast S128x4096 (Scalar.ofBits .f32 0xC3E00000#32))
      (divf y (broadcastTo S128x4096 p broadcasts_S128x1_S128x4096)))) bitsLt_fp8e4m3_f32 (ix2 r k)
      = min (Ideal.ofBits .f32 0x43E00000#32) (max (Ideal.ofBits .f32 0xC3E00000#32) (Ideal.div (y (ix2 r k)) (p (ix2 r 0)))) := by
  pointwise

theorem pay3_apply (r : Fin 128) (k : Fin 4096) : k0_pay3 x w (ix2 r k) = rowCode (nrow x w r) k := by
  refine (codes_apply (k0_pay1 x w) (k0_pay2 x w) r k).trans ?_
  rw [pay2_apply, pay1_apply]; rfl

theorem pay4_apply (r : Fin 128) (l : Fin 128) : k0_pay4 x w (ix2 r l) = rowScale (nrow x w r) := by
  exact (lanes_apply (k0_pay2 x w) r l).trans (pay2_apply x w r)

end Cert.NormQuantIdealTile

namespace Cert.NormQuantRefIdealTile

open Cert.NormQuantRefIdeal Cert.NormQuantRefIdeal.Gen Cert.Sparse
open Idealize.ShloMosaic Idealize.ShloMosaic.TcCoe Idealize.SL.Sem

variable (x : Vec Ideal S1152x4096 .bf16) (w : Vec Ideal S1x4096 .f32)

/-- The normalised row. -/
def nrow (r : Fin 1152) : Fin 4096 → EReal := rmsRow (fun j => x (ix2 r j)) (fun j => w (ix2 0 j))

theorem pay1_apply (r : Fin 1152) (k : Fin 4096) : k0_pay1 x w (ix2 r k) = nrow x w r k := by
  unfold k0_pay1 nrow rmsRow
  pointwise

theorem rowMax_apply (y : FVec Ideal S1152x4096 .f32) (r : Fin 1152) :
    shapeCast S1152x1 (multiReduction .maximumf [1] S1152 (absf y) 0xFF800000#32 reduces_S1152x4096_S1152 (.inl rfl) rfl) shapeCasts_S1152_S1152x1 (ix2 r 0)
      = (Finset.univ : Finset (Fin 4096)).fold max (Ideal.ofBits .f32 0xFF800000#32) fun j => FloatOps.absf (F := Ideal) (φ := .f32) (y (ix2 r j)) := by
  pointwise

theorem scale_apply (p : FVec Ideal S1152x1 .f32) (r : Fin 1152) :
    select (cmpf .oeq p (broadcast S1152x1 (Scalar.ofBits .f32 0x00000000#32))) (broadcast S1152x1 (Scalar.ofBits .f32 0x3F800000#32))
      (divf p (broadcast S1152x1 (Scalar.ofBits .f32 0x43E00000#32))) (ix2 r 0) = scaleOf (p (ix2 r 0)) := by
  unfold scaleOf
  pointwise

theorem pay2_apply (r : Fin 1152) : k0_pay2 x w (ix2 r 0) = rowScale (nrow x w r) := by
  rw [show nrow x w r = fun j => k0_pay1 x w (ix2 r j) from funext fun j => (pay1_apply x w r j).symm]
  exact (scale_apply _ r).trans (congrArg scaleOf (rowMax_apply (k0_pay1 x w) r))

theorem lanes_apply (p : FVec Ideal S1152x1 .f32) (r : Fin 1152) (l : Fin 128) :
    broadcastTo S1152x128 (shapeCast S1152x1 p shapeCasts_S1152x1_S1152x1) broadcasts_S1152x1_S1152x128 (ix2 r l) = p (ix2 r 0) := by
  pointwise

theorem codes_apply (y : FVec Ideal S1152x4096 .f32) (p : FVec Ideal S1152x1 .f32) (r : Fin 1152) (k : Fin 4096) :
    truncf .fp8e4m3 (minimumf (broadcast S1152x4096 (Scalar.ofBits .f32 0x43E00000#32)) (maximumf (broadcast S1152x4096 (Scalar.ofBits .f32 0xC3E00000#32))
      (divf y (broadcastTo S1152x4096 p broadcasts_S1152x1_S1152x4096)))) bitsLt_fp8e4m3_f32 (ix2 r k)
      = min (Ideal.ofBits .f32 0x43E00000#32) (max (Ideal.ofBits .f32 0xC3E00000#32) (Ideal.div (y (ix2 r k)) (p (ix2 r 0)))) := by
  pointwise

theorem pay3_apply (r : Fin 1152) (k : Fin 4096) : k0_pay3 x w (ix2 r k) = rowCode (nrow x w r) k := by
  refine (codes_apply (k0_pay1 x w) (k0_pay2 x w) r k).trans ?_
  rw [pay2_apply, pay1_apply]; rfl

theorem pay4_apply (r : Fin 1152) (l : Fin 128) : k0_pay4 x w (ix2 r l) = rowScale (nrow x w r) := by
  exact (lanes_apply (k0_pay2 x w) r l).trans (pay2_apply x w r)

end Cert.NormQuantRefIdealTile
-- ==== Proof.Own.QuantFinal.lean ====
/- What the quantisation of a row and the normalised one leave in their result arrays, in the kernels and in the references. -/
module

public import proofs.«01_k».proof.Proof.Own.QuantTile

@[expose] public section

set_option maxRecDepth 16384

noncomputable section

namespace Cert.QuantIdealTile

open Cert.QuantIdeal Cert.QuantIdeal.Gen Cert.Sparse
open Idealize.ShloMosaic Idealize.ShloMosaic.TcCoe Idealize.SL.Sem

variable (m : (ℓ : Loc nD τ sig) → Buf (Elt Ideal) ℓ) (c : Dev nD)

theorem idx0 : ∀ t : Fin grid0.N, cc0_transform_0 (grid0.coords t) 0 = t.val ∧ cc0_transform_0 (grid0.coords t) 1 = 0 := by decide +kernel
theorem idx1 : ∀ t : Fin grid0.N, cc0_transform_1 (grid0.coords t) 0 = t.val ∧ cc0_transform_1 (grid0.coords t) 1 = 0 := by decide +kernel
theorem idx2 : ∀ t : Fin grid0.N, cc0_transform_2 (grid0.coords t) 0 = t.val ∧ cc0_transform_2 (grid0.coords t) 1 = 0 := by decide +kernel

theorem tlt (t : Fin cfg0.N) : t.val < 9 := t.isLt.trans_eq N_0

theorem blk0 (t : Fin cfg0.N) (r : Fin 128) (k : Fin 4096) :
    (iblk m c 0 t : S128x4096.Idx → EReal) (ix2 r k) = (m ((c : Thread nD τ).loc main_arg0) : S1152x4096.Idx → EReal) (ix2 ⟨128 * t.val + r.val, by have := tlt t; omega⟩ k) := by
  rw [← V_main_arg0 m c]
  unfold iblk
  rw [View.read_apply, cast_eq]
  refine congrArg _ (funext (Fin.forall_fin_two.2 ⟨Fin.ext ?_, Fin.ext ?_⟩))
  · show cc0_transform_0 (grid0.coords t) 0 * 128 + 1 * r.val = 128 * t.val + r.val
    have := tlt t
    rw [(idx0 t).1]; omega
  · show cc0_transform_0 (grid0.coords t) 1 * 4096 + 1 * k.val = k.val
    rw [(idx0 t).2]; omega

theorem two_zero : ∀ a : Fin 2, (![0, 0] : Fin 2 → Nat) a = 0 := by decide

theorem ld_x {e : EltTy} (x : Vec Ideal S128x4096 e) : View.ld (Val := Elt Ideal) (e' := e) x r0_0 = x :=
  View.ld_unit_lit (S := S128x4096) _ _ two_zero

theorem out_codes (x : Vec Ideal S128x4096 .f32) : out0_1 x = k0_pay2 x := by
  unfold out0_1
  rw [ld_x]
  exact View.canon_cons_unit_lit (S := S128x4096) _ _ _ two_zero

theorem out_scale (x : Vec Ideal S128x4096 .f32) : out0_2 x = k0_pay3 x := by
  unfold out0_2
  rw [ld_x]
  exact View.canon_cons_unit_lit (S := S128x128) _ _ _ two_zero

/-- The row that is quantised. -/
def row (r : Fin 1152) : Fin 4096 → EReal :=
  fun j => (m ((c : Thread nD τ).loc main_arg0) : S1152x4096.Idx → EReal) (ix2 r j)

theorem row_eq (t : Fin cfg0.N) (r : Fin 128) : (fun j => (iblk m c 0 t : S128x4096.Idx → EReal) (ix2 r j)) = row m c ⟨128 * t.val + r.val, by have := tlt t; omega⟩ :=
  funext fun j => blk0 m c t r j

/-- The codes after the run. -/
theorem final_codes (r : Fin 1152) (k : Fin 4096) :
    ((dats m 0 c).arrAt 1 cfg0.N : S1152x4096.Idx → EReal) (ix2 r k) = rowCode (row m c r) k := by
  have hr := r.isLt
  have hN : r.val / 128 < cfg0.N := lt_of_lt_of_eq (by omega) N_0.symm
  have h := congrFun (Cert.QuantIdeal.Value.blocks1 m c ⟨r.val / 128, hN⟩ (flush0_1 _)) (ix2 ⟨r.val % 128, by omega⟩ k)
  rw [Cert.QuantIdeal.Value.flushed1, View.read_apply, cast_eq, out_codes] at h
  have e := (pay2_apply (iblk m c 0 ⟨r.val / 128, hN⟩) ⟨r.val % 128, by omega⟩ k).trans (congrArg (fun f => rowCode f k) (row_eq m c ⟨r.val / 128, hN⟩ ⟨r.val % 128, by omega⟩))
  refine Eq.trans (congrArg _ (funext (Fin.forall_fin_two.2 ⟨Fin.ext ?_, Fin.ext ?_⟩))) (h.trans (e.trans (congrArg (fun r => rowCode (row m c r) k) (Fin.ext ?_))))
  · show r.val = cc0_transform_1 (grid0.coords ⟨r.val / 128, hN⟩) 0 * 128 + 1 * (r.val % 128)
    rw [(idx1 _).1]; show r.val = r.val / 128 * 128 + 1 * (r.val % 128); omega
  · show k.val = cc0_transform_1 (grid0.coords ⟨r.val / 128, hN⟩) 1 * 4096 + 1 * k.val
    rw [(idx1 _).2]; omega
  · show 128 * (r.val / 128) + r.val % 128 = r.val
    omega

/-- The scale after the run. -/
theorem final_scale (r : Fin 1152) (k : Fin 128) :
    ((dats m 0 c).arrAt 2 cfg0.N : S1152x128.Idx → EReal) (ix2 r k) = rowScale (row m c r) := by
  have hr := r.isLt
  have hN : r.val / 128 < cfg0.N := lt_of_lt_of_eq (by omega) N_0.symm
  have h := congrFun (Cert.QuantIdeal.Value.blocks2 m c ⟨r.val / 128, hN⟩ (flush0_2 _)) (ix2 ⟨r.val % 128, by omega⟩ k)
  rw [Cert.QuantIdeal.Value.flushed2, View.read_apply, cast_eq, out_scale] at h
  have e := (pay3_apply (iblk m c 0 ⟨r.val / 128, hN⟩) ⟨r.val % 128, by omega⟩ k).trans (congrArg (rowScale) (row_eq m c ⟨r.val / 128, hN⟩ ⟨r.val % 128, by omega⟩))
  refine Eq.trans (congrArg _ (funext (Fin.forall_fin_two.2 ⟨Fin.ext ?_, Fin.ext ?_⟩))) (h.trans (e.trans (congrArg (fun r => rowScale (row m c r)) (Fin.ext ?_))))
  · show r.val = cc0_transform_2 (grid0.coords ⟨r.val / 128, hN⟩) 0 * 128 + 1 * (r.val % 128)
    rw [(idx2 _).1]; show r.val = r.val / 128 * 128 + 1 * (r.val % 128); omega
  · show k.val = cc0_transform_2 (grid0.coords ⟨r.val / 128, hN⟩) 1 * 128 + 1 * k.val
    rw [(idx2 _).2]; omega
  · show 128 * (r.val / 128) + r.val % 128 = r.val
    omega

end Cert.QuantIdealTile

namespace Cert.QuantRefIdealTile

open Cert.QuantRefIdeal Cert.QuantRefIdeal.Gen Cert.Sparse
open Idealize.ShloMosaic Idealize.ShloMosaic.TcCoe Idealize.SL.Sem

variable (m : (ℓ : Loc nD τ sig) → Buf (Elt Ideal) ℓ) (c : Dev nD)

theorem tlt (t : Fin cfg0.N) : t.val < 1 := t.isLt.trans_eq N_0

theorem blk0 (t : Fin cfg0.N) (r : Fin 1152) (k : Fin 4096) :
    (iblk m c 0 t : S1152x4096.Idx → EReal) (ix2 r k) = (m ((c : Thread nD τ).loc main_arg0) : S1152x4096.Idx → EReal) (ix2 ⟨1152 * t.val + r.val, by have := tlt t; omega⟩ k) := by
  rw [← V_main_arg0 m c]
  unfold iblk
  rw [View.read_apply, cast_eq]
  refine congrArg _ (funext (Fin.forall_fin_two.2 ⟨Fin.ext ?_, Fin.ext ?_⟩))
  · show 0 * 1152 + 1 * r.val = 1152 * t.val + r.val
    have := tlt t
    omega
  · show 0 * 4096 + 1 * k.val = k.val
    omega

theorem two_zero : ∀ a : Fin 2, (![0, 0] : Fin 2 → Nat) a = 0 := by decide

theorem ld_x {e : EltTy} (x : Vec Ideal S1152x4096 e) : View.ld (Val := Elt Ideal) (e' := e) x r0_0 = x :=
  View.ld_unit_lit (S := S1152x4096) _ _ two_zero

theorem out_codes (x : Vec Ideal S1152x4096 .f32) : out0_1 x = k0_pay2 x := by
  unfold out0_1
  rw [ld_x]
  exact View.canon_cons_unit_lit (S := S1152x4096) _ _ _ two_zero

theorem out_scale (x : Vec Ideal S1152x4096 .f32) : out0_2 x = k0_pay3 x := by
  unfold out0_2
  rw [ld_x]
  exact View.canon_cons_unit_lit (S := S1152x128) _ _ _ two_zero

/-- The row that is quantised. -/
def row (r : Fin 1152) : Fin 4096 → EReal :=
  fun j => (m ((c : Thread nD τ).loc main_arg0) : S1152x4096.Idx → EReal) (ix2 r j)

theorem row_eq (t : Fin cfg0.N) (r : Fin 1152) : (fun j => (iblk m c 0 t : S1152x4096.Idx → EReal) (ix2 r j)) = row m c ⟨1152 * t.val + r.val, by have := tlt t; omega⟩ :=
  funext fun j => blk0 m c t r j

/-- The codes after the run. -/
theorem final_codes (r : Fin 1152) (k : Fin 4096) :
    ((dats m 0 c).arrAt 1 cfg0.N : S1152x4096.Idx → EReal) (ix2 r k) = rowCode (row m c r) k := by
  have hr := r.isLt
  have hN : r.val / 1152 < cfg0.N := lt_of_lt_of_eq (by omega) N_0.symm
  have h := congrFun (Cert.QuantRefIdeal.Value.blocks1 m c ⟨r.val / 1152, hN⟩ (flush0_1 _)) (ix2 ⟨r.val % 1152, by omega⟩ k)
  rw [Cert.QuantRefIdeal.Value.flushed1, View.read_apply, cast_eq, out_codes] at h
  have e := (pay2_apply (iblk m c 0 ⟨r.val / 1152, hN⟩) ⟨r.val % 1152, by omega⟩ k).trans (congrArg (fun f => rowCode f k) (row_eq m c ⟨r.val / 1152, hN⟩ ⟨r.val % 1152, by omega⟩))
  refine Eq.trans (congrArg _ (funext (Fin.forall_fin_two.2 ⟨Fin.ext ?_, Fin.ext ?_⟩))) (h.trans (e.trans (congrArg (fun r => rowCode (row m c r) k) (Fin.ext ?_))))
  · show r.val = 0 * 1152 + 1 * (r.val % 1152)
    omega
  · show k.val = 0 * 4096 + 1 * k.val
    omega
  · show 1152 * (r.val / 1152) + r.val % 1152 = r.val
    omega

/-- The scale after the run. -/
theorem final_scale (r : Fin 1152) (k : Fin 128) :
    ((dats m 0 c).arrAt 2 cfg0.N : S1152x128.Idx → EReal) (ix2 r k) = rowScale (row m c r) := by
  have hr := r.isLt
  have hN : r.val / 1152 < cfg0.N := lt_of_lt_of_eq (by omega) N_0.symm
  have h := congrFun (Cert.QuantRefIdeal.Value.blocks2 m c ⟨r.val / 1152, hN⟩ (flush0_2 _)) (ix2 ⟨r.val % 1152, by omega⟩ k)
  rw [Cert.QuantRefIdeal.Value.flushed2, View.read_apply, cast_eq, out_scale] at h
  have e := (pay3_apply (iblk m c 0 ⟨r.val / 1152, hN⟩) ⟨r.val % 1152, by omega⟩ k).trans (congrArg (rowScale) (row_eq m c ⟨r.val / 1152, hN⟩ ⟨r.val % 1152, by omega⟩))
  refine Eq.trans (congrArg _ (funext (Fin.forall_fin_two.2 ⟨Fin.ext ?_, Fin.ext ?_⟩))) (h.trans (e.trans (congrArg (fun r => rowScale (row m c r)) (Fin.ext ?_))))
  · show r.val = 0 * 1152 + 1 * (r.val % 1152)
    omega
  · show k.val = 0 * 128 + 1 * k.val
    omega
  · show 1152 * (r.val / 1152) + r.val % 1152 = r.val
    omega

end Cert.QuantRefIdealTile

namespace Cert.NormQuantIdealTile

open Cert.NormQuantIdeal Cert.NormQuantIdeal.Gen Cert.Sparse
open Idealize.ShloMosaic Idealize.ShloMosaic.TcCoe Idealize.SL.Sem

variable (m : (ℓ : Loc nD τ sig) → Buf (Elt Ideal) ℓ) (c : Dev nD)

theorem idx0 : ∀ t : Fin grid0.N, cc0_transform_0 (grid0.coords t) 0 = t.val ∧ cc0_transform_0 (grid0.coords t) 1 = 0 := by decide +kernel
theorem idx2 : ∀ t : Fin grid0.N, cc0_transform_2 (grid0.coords t) 0 = t.val ∧ cc0_transform_2 (grid0.coords t) 1 = 0 := by decide +kernel
theorem idx3 : ∀ t : Fin grid0.N, cc0_transform_3 (grid0.coords t) 0 = t.val ∧ cc0_transform_3 (grid0.coords t) 1 = 0 := by decide +kernel
theorem idx1 : ∀ t : Fin grid0.N, cc0_transform_1 (grid0.coords t) 0 = 0 ∧ cc0_transform_1 (grid0.coords t) 1 = 0 := by decide +kernel

theorem tlt (t : Fin cfg0.N) : t.val < 9 := t.isLt.trans_eq N_0

theorem blk0 (t : Fin cfg0.N) (r : Fin 128) (k : Fin 4096) :
    (iblk m c 0 t : S128x4096.Idx → EReal) (ix2 r k) = (m ((c : Thread nD τ).loc main_arg0) : S1152x4096.Idx → EReal) (ix2 ⟨128 * t.val + r.val, by have := tlt t; omega⟩ k) := by
  rw [← V_main_arg0 m c]
  unfold iblk
  rw [View.read_apply, cast_eq]
  refine congrArg _ (funext (Fin.forall_fin_two.2 ⟨Fin.ext ?_, Fin.ext ?_⟩))
  · show cc0_transform_0 (grid0.coords t) 0 * 128 + 1 * r.val = 128 * t.val + r.val
    have := tlt t
    rw [(idx0 t).1]; omega
  · show cc0_transform_0 (grid0.coords t) 1 * 4096 + 1 * k.val = k.val
    rw [(idx0 t).2]; omega

theorem V_v0 (n : Fin 4096) :
    (V m c main_v0 : S1x4096.Idx → EReal) (ix2 0 n) = (m ((c : Thread nD τ).loc main_arg1) : S4096.Idx → EReal) (ix1 n) := by
  have h : (V m c main_v0 : S1x4096.Idx → EReal) = shapeCast S1x4096 (m ((c : Thread nD τ).loc main_arg1)) shapeCasts_S4096_S1x4096 := by
    dsimp only [V, hostOps0]; after_results; rfl
  rw [h]
  refine shapeCast_apply _ _ _ (ix1 n) ?_
  rw [Shape.rowMajor_val_two, Shape.rowMajor_val_one]
  show n.val = 0 * 4096 + n.val
  omega

theorem blk1 (t : Fin cfg0.N) (k : Fin 4096) :
    (iblk m c 1 t : S1x4096.Idx → EReal) (ix2 0 k) = (m ((c : Thread nD τ).loc main_arg1) : S4096.Idx → EReal) (ix1 k) := by
  rw [← V_v0 m c]
  unfold iblk
  rw [View.read_apply, cast_eq]
  refine congrArg _ (funext (Fin.forall_fin_two.2 ⟨Fin.ext ?_, Fin.ext ?_⟩))
  · show cc0_transform_1 (grid0.coords t) 0 * 1 + 1 * 0 = 0
    rw [(idx1 t).1]
  · show cc0_transform_1 (grid0.coords t) 1 * 4096 + 1 * k.val = k.val
    rw [(idx1 t).2]; omega

theorem two_zero : ∀ a : Fin 2, (![0, 0] : Fin 2 → Nat) a = 0 := by decide

theorem ld_x {e : EltTy} (x : Vec Ideal S128x4096 e) : View.ld (Val := Elt Ideal) (e' := e) x r0_0 = x :=
  View.ld_unit_lit (S := S128x4096) _ _ two_zero
theorem ld_w {e : EltTy} (x : Vec Ideal S1x4096 e) : View.ld (Val := Elt Ideal) (e' := e) x r0_1 = x :=
  View.ld_unit_lit (S := S1x4096) _ _ two_zero

theorem out_codes (x : Vec Ideal S128x4096 .bf16) (w : Vec Ideal S1x4096 .f32) : out0_2 x w = k0_pay3 x w := by
  unfold out0_2
  rw [ld_x, ld_w]
  exact View.canon_cons_unit_lit (S := S128x4096) _ _ _ two_zero

theorem out_scale (x : Vec Ideal S128x4096 .bf16) (w : Vec Ideal S1x4096 .f32) : out0_3 x w = k0_pay4 x w := by
  unfold out0_3
  rw [ld_x, ld_w]
  exact View.canon_cons_unit_lit (S := S128x128) _ _ _ two_zero

/-- The row that is quantised. -/
def row (r : Fin 1152) : Fin 4096 → EReal :=
  rmsRow (fun j => (m ((c : Thread nD τ).loc main_arg0) : S1152x4096.Idx → EReal) (ix2 r j)) fun j => (m ((c : Thread nD τ).loc main_arg1) : S4096.Idx → EReal) (ix1 j)

theorem row_eq (t : Fin cfg0.N) (r : Fin 128) : nrow (iblk m c 0 t) (iblk m c 1 t) r = row m c ⟨128 * t.val + r.val, by have := tlt t; omega⟩ :=
  congrArg₂ rmsRow (funext fun j => blk0 m c t r j) (funext fun j => blk1 m c t j)

/-- The codes after the run. -/
theorem final_codes (r : Fin 1152) (k : Fin 4096) :
    ((dats m 0 c).arrAt 2 cfg0.N : S1152x4096.Idx → EReal) (ix2 r k) = rowCode (row m c r) k := by
  have hr := r.isLt
  have hN : r.val / 128 < cfg0.N := lt_of_lt_of_eq (by omega) N_0.symm
  have h := congrFun (Cert.NormQuantIdeal.Value.blocks2 m c ⟨r.val / 128, hN⟩ (flush0_2 _)) (ix2 ⟨r.val % 128, by omega⟩ k)
  rw [Cert.NormQuantIdeal.Value.flushed2, View.read_apply, cast_eq, out_codes] at h
  have e := (pay3_apply (iblk m c 0 ⟨r.val / 128, hN⟩) (iblk m c 1 ⟨r.val / 128, hN⟩) ⟨r.val % 128, by omega⟩ k).trans (congrArg (fun f => rowCode f k) (row_eq m c ⟨r.val / 128, hN⟩ ⟨r.val % 128, by omega⟩))
  refine Eq.trans (congrArg _ (funext (Fin.forall_fin_two.2 ⟨Fin.ext ?_, Fin.ext ?_⟩))) (h.trans (e.trans (congrArg (fun r => rowCode (row m c r) k) (Fin.ext ?_))))
  · show r.val = cc0_transform_2 (grid0.coords ⟨r.val / 128, hN⟩) 0 * 128 + 1 * (r.val % 128)
    rw [(idx2 _).1]; show r.val = r.val / 128 * 128 + 1 * (r.val % 128); omega
  · show k.val = cc0_transform_2 (grid0.coords ⟨r.val / 128, hN⟩) 1 * 4096 + 1 * k.val
    rw [(idx2 _).2]; omega
  · show 128 * (r.val / 128) + r.val % 128 = r.val
    omega

/-- The scale after the run. -/
theorem final_scale (r : Fin 1152) (k : Fin 128) :
    ((dats m 0 c).arrAt 3 cfg0.N : S1152x128.Idx → EReal) (ix2 r k) = rowScale (row m c r) := by
  have hr := r.isLt
  have hN : r.val / 128 < cfg0.N := lt_of_lt_of_eq (by omega) N_0.symm
  have h := congrFun (Cert.NormQuantIdeal.Value.blocks3 m c ⟨r.val / 128, hN⟩ (flush0_3 _)) (ix2 ⟨r.val % 128, by omega⟩ k)
  rw [Cert.NormQuantIdeal.Value.flushed3, View.read_apply, cast_eq, out_scale] at h
  have e := (pay4_apply (iblk m c 0 ⟨r.val / 128, hN⟩) (iblk m c 1 ⟨r.val / 128, hN⟩) ⟨r.val % 128, by omega⟩ k).trans (congrArg (rowScale) (row_eq m c ⟨r.val / 128, hN⟩ ⟨r.val % 128, by omega⟩))
  refine Eq.trans (congrArg _ (funext (Fin.forall_fin_two.2 ⟨Fin.ext ?_, Fin.ext ?_⟩))) (h.trans (e.trans (congrArg (fun r => rowScale (row m c r)) (Fin.ext ?_))))
  · show r.val = cc0_transform_3 (grid0.coords ⟨r.val / 128, hN⟩) 0 * 128 + 1 * (r.val % 128)
    rw [(idx3 _).1]; show r.val = r.val / 128 * 128 + 1 * (r.val % 128); omega
  · show k.val = cc0_transform_3 (grid0.coords ⟨r.val / 128, hN⟩) 1 * 128 + 1 * k.val
    rw [(idx3 _).2]; omega
  · show 128 * (r.val / 128) + r.val % 128 = r.val
    omega

end Cert.NormQuantIdealTile

namespace Cert.NormQuantRefIdealTile

open Cert.NormQuantRefIdeal Cert.NormQuantRefIdeal.Gen Cert.Sparse
open Idealize.ShloMosaic Idealize.ShloMosaic.TcCoe Idealize.SL.Sem

variable (m : (ℓ : Loc nD τ sig) → Buf (Elt Ideal) ℓ) (c : Dev nD)

theorem tlt (t : Fin cfg0.N) : t.val < 1 := t.isLt.trans_eq N_0

theorem blk0 (t : Fin cfg0.N) (r : Fin 1152) (k : Fin 4096) :
    (iblk m c 0 t : S1152x4096.Idx → EReal) (ix2 r k) = (m ((c : Thread nD τ).loc main_arg0) : S1152x4096.Idx → EReal) (ix2 ⟨1152 * t.val + r.val, by have := tlt t; omega⟩ k) := by
  rw [← V_main_arg0 m c]
  unfold iblk
  rw [View.read_apply, cast_eq]
  refine congrArg _ (funext (Fin.forall_fin_two.2 ⟨Fin.ext ?_, Fin.ext ?_⟩))
  · show 0 * 1152 + 1 * r.val = 1152 * t.val + r.val
    have := tlt t
    omega
  · show 0 * 4096 + 1 * k.val = k.val
    omega

theorem V_v0 (n : Fin 4096) :
    (V m c main_v0 : S1x4096.Idx → EReal) (ix2 0 n) = (m ((c : Thread nD τ).loc main_arg1) : S4096.Idx → EReal) (ix1 n) := by
  have h : (V m c main_v0 : S1x4096.Idx → EReal) = shapeCast S1x4096 (m ((c : Thread nD τ).loc main_arg1)) shapeCasts_S4096_S1x4096 := by
    dsimp only [V, hostOps0]; after_results; rfl
  rw [h]
  refine shapeCast_apply _ _ _ (ix1 n) ?_
  rw [Shape.rowMajor_val_two, Shape.rowMajor_val_one]
  show n.val = 0 * 4096 + n.val
  omega

theorem blk1 (t : Fin cfg0.N) (k : Fin 4096) :
    (iblk m c 1 t : S1x4096.Idx → EReal) (ix2 0 k) = (m ((c : Thread nD τ).loc main_arg1) : S4096.Idx → EReal) (ix1 k) := by
  rw [← V_v0 m c]
  unfold iblk
  rw [View.read_apply, cast_eq]
  refine congrArg _ (funext (Fin.forall_fin_two.2 ⟨Fin.ext ?_, Fin.ext ?_⟩))
  · show 0 * 1 + 1 * 0 = 0
    rfl
  · show 0 * 4096 + 1 * k.val = k.val
    omega

theorem two_zero : ∀ a : Fin 2, (![0, 0] : Fin 2 → Nat) a = 0 := by decide

theorem ld_x {e : EltTy} (x : Vec Ideal S1152x4096 e) : View.ld (Val := Elt Ideal) (e' := e) x r0_0 = x :=
  View.ld_unit_lit (S := S1152x4096) _ _ two_zero
theorem ld_w {e : EltTy} (x : Vec Ideal S1x4096 e) : View.ld (Val := Elt Ideal) (e' := e) x r0_1 = x :=
  View.ld_unit_lit (S := S1x4096) _ _ two_zero

theorem out_codes (x : Vec Ideal S1152x4096 .bf16) (w : Vec Ideal S1x4096 .f32) : out0_2 x w = k0_pay3 x w := by
  unfold out0_2
  rw [ld_x, ld_w]
  exact View.canon_cons_unit_lit (S := S1152x4096) _ _ _ two_zero

theorem out_scale (x : Vec Ideal S1152x4096 .bf16) (w : Vec Ideal S1x4096 .f32) : out0_3 x w = k0_pay4 x w := by
  unfold out0_3
  rw [ld_x, ld_w]
  exact View.canon_cons_unit_lit (S := S1152x128) _ _ _ two_zero

/-- The row that is quantised. -/
def row (r : Fin 1152) : Fin 4096 → EReal :=
  rmsRow (fun j => (m ((c : Thread nD τ).loc main_arg0) : S1152x4096.Idx → EReal) (ix2 r j)) fun j => (m ((c : Thread nD τ).loc main_arg1) : S4096.Idx → EReal) (ix1 j)

theorem row_eq (t : Fin cfg0.N) (r : Fin 1152) : nrow (iblk m c 0 t) (iblk m c 1 t) r = row m c ⟨1152 * t.val + r.val, by have := tlt t; omega⟩ :=
  congrArg₂ rmsRow (funext fun j => blk0 m c t r j) (funext fun j => blk1 m c t j)

/-- The codes after the run. -/
theorem final_codes (r : Fin 1152) (k : Fin 4096) :
    ((dats m 0 c).arrAt 2 cfg0.N : S1152x4096.Idx → EReal) (ix2 r k) = rowCode (row m c r) k := by
  have hr := r.isLt
  have hN : r.val / 1152 < cfg0.N := lt_of_lt_of_eq (by omega) N_0.symm
  have h := congrFun (Cert.NormQuantRefIdeal.Value.blocks2 m c ⟨r.val / 1152, hN⟩ (flush0_2 _)) (ix2 ⟨r.val % 1152, by omega⟩ k)
  rw [Cert.NormQuantRefIdeal.Value.flushed2, View.read_apply, cast_eq, out_codes] at h
  have e := (pay3_apply (iblk m c 0 ⟨r.val / 1152, hN⟩) (iblk m c 1 ⟨r.val / 1152, hN⟩) ⟨r.val % 1152, by omega⟩ k).trans (congrArg (fun f => rowCode f k) (row_eq m c ⟨r.val / 1152, hN⟩ ⟨r.val % 1152, by omega⟩))
  refine Eq.trans (congrArg _ (funext (Fin.forall_fin_two.2 ⟨Fin.ext ?_, Fin.ext ?_⟩))) (h.trans (e.trans (congrArg (fun r => rowCode (row m c r) k) (Fin.ext ?_))))
  · show r.val = 0 * 1152 + 1 * (r.val % 1152)
    omega
  · show k.val = 0 * 4096 + 1 * k.val
    omega
  · show 1152 * (r.val / 1152) + r.val % 1152 = r.val
    omega

/-- The scale after the run. -/
theorem final_scale (r : Fin 1152) (k : Fin 128) :
    ((dats m 0 c).arrAt 3 cfg0.N : S1152x128.Idx → EReal) (ix2 r k) = rowScale (row m c r) := by
  have hr := r.isLt
  have hN : r.val / 1152 < cfg0.N := lt_of_lt_of_eq (by omega) N_0.symm
  have h := congrFun (Cert.NormQuantRefIdeal.Value.blocks3 m c ⟨r.val / 1152, hN⟩ (flush0_3 _)) (ix2 ⟨r.val % 1152, by omega⟩ k)
  rw [Cert.NormQuantRefIdeal.Value.flushed3, View.read_apply, cast_eq, out_scale] at h
  have e := (pay4_apply (iblk m c 0 ⟨r.val / 1152, hN⟩) (iblk m c 1 ⟨r.val / 1152, hN⟩) ⟨r.val % 1152, by omega⟩ k).trans (congrArg (rowScale) (row_eq m c ⟨r.val / 1152, hN⟩ ⟨r.val % 1152, by omega⟩))
  refine Eq.trans (congrArg _ (funext (Fin.forall_fin_two.2 ⟨Fin.ext ?_, Fin.ext ?_⟩))) (h.trans (e.trans (congrArg (fun r => rowScale (row m c r)) (Fin.ext ?_))))
  · show r.val = 0 * 1152 + 1 * (r.val % 1152)
    omega
  · show k.val = 0 * 128 + 1 * k.val
    omega
  · show 1152 * (r.val / 1152) + r.val % 1152 = r.val
    omega

end Cert.NormQuantRefIdealTile
-- ==== Proof.Own.QuantH.lean ====
/- The normalised quantisation of an f32 input: the steps of QuantTile and QuantFinal at that element type. -/
module

public import proofs.«01_k».proof.Proof.Gen.NormQuantHIdeal.Value
public import proofs.«01_k».proof.Proof.Gen.NormQuantHRefIdeal.Value
public import proofs.«01_k».proof.Proof.Own.QuantTile

@[expose] public section

set_option maxRecDepth 16384

noncomputable section

namespace Cert.NormQuantHIdealTile

open Cert.NormQuantHIdeal Cert.NormQuantHIdeal.Gen Cert.Sparse
open Idealize.ShloMosaic Idealize.ShloMosaic.TcCoe Idealize.SL.Sem

variable (x : Vec Ideal S128x4096 .f32) (w : Vec Ideal S1x4096 .f32)

/-- The normalised row. -/
def nrow (r : Fin 128) : Fin 4096 → EReal := rmsRow (fun j => x (ix2 r j)) (fun j => w (ix2 0 j))

theorem pay1_apply (r : Fin 128) (k : Fin 4096) : k0_pay1 x w (ix2 r k) = nrow x w r k := by
  unfold k0_pay1 nrow rmsRow
  pointwise

theorem rowMax_apply (y : FVec Ideal S128x4096 .f32) (r : Fin 128) :
    shapeCast S128x1 (multiReduction .maximumf [1] S128 (absf y) 0xFF800000#32 reduces_S128x4096_S128 (.inl rfl) rfl) shapeCasts_S128_S128x1 (ix2 r 0)
      = (Finset.univ : Finset (Fin 4096)).fold max (Ideal.ofBits .f32 0xFF800000#32) fun j => FloatOps.absf (F := Ideal) (φ := .f32) (y (ix2 r j)) := by
  pointwise

theorem scale_apply (p : FVec Ideal S128x1 .f32) (r : Fin 128) :
    select (cmpf .oeq p (broadcast S128x1 (Scalar.ofBits .f32 0x00000000#32))) (broadcast S128x1 (Scalar.ofBits .f32 0x3F800000#32))
      (divf p (broadcast S128x1 (Scalar.ofBits .f32 0x43E00000#32))) (ix2 r 0) = scaleOf (p (ix2 r 0)) := by
  unfold scaleOf
  pointwise

theorem pay2_apply (r : Fin 128) : k0_pay2 x w (ix2 r 0) = rowScale (nrow x w r) := by
  rw [show nrow x w r = fun j => k0_pay1 x w (ix2 r j) from funext fun j => (pay1_apply x w r j).symm]
  exact (scale_apply _ r).trans (congrArg scaleOf (rowMax_apply (k0_pay1 x w) r))

theorem lanes_apply (p : FVec Ideal S128x1 .f32) (r : Fin 128) (l : Fin 128) :
    broadcastTo S128x128 (shapeCast S128x1 p shapeCasts_S128x1_S128x1) broadcasts_S128x1_S128x128 (ix2 r l) = p (ix2 r 0) := by
  pointwise

theorem codes_apply (y : FVec Ideal S128x4096 .f32) (p : FVec Ideal S128x1 .f32) (r : Fin 128) (k : Fin 4096) :
    truncf .fp8e4m3 (minimumf (broadcast S128x4096 (Scalar.ofBits .f32 0x43E00000#32)) (maximumf (broadcast S128x4096 (Scalar.ofBits .f32 0xC3E00000#32))
      (divf y (broadcastTo S128x4096 p broadcasts_S128x1_S128x4096)))) bitsLt_fp8e4m3_f32 (ix2 r k)
      = min (Ideal.ofBits .f32 0x43E00000#32) (max (Ideal.ofBits .f32 0xC3E00000#32) (Ideal.div (y (ix2 r k)) (p (ix2 r 0)))) := by
  pointwise

theorem pay3_apply (r : Fin 128) (k : Fin 4096) : k0_pay3 x w (ix2 r k) = rowCode (nrow x w r) k := by
  refine (codes_apply (k0_pay1 x w) (k0_pay2 x w) r k).trans ?_
  rw [pay2_apply, pay1_apply]; rfl

theorem pay4_apply (r : Fin 128) (l : Fin 128) : k0_pay4 x w (ix2 r l) = rowScale (nrow x w r) := by
  exact (lanes_apply (k0_pay2 x w) r l).trans (pay2_apply x w r)

end Cert.NormQuantHIdealTile

namespace Cert.NormQuantHRefIdealTile

open Cert.NormQuantHRefIdeal Cert.NormQuantHRefIdeal.Gen Cert.Sparse
open Idealize.ShloMosaic Idealize.ShloMosaic.TcCoe Idealize.SL.Sem

variable (x : Vec Ideal S1152x4096 .f32) (w : Vec Ideal S1x4096 .f32)

/-- The normalised row. -/
def nrow (r : Fin 1152) : Fin 4096 → EReal := rmsRow (fun j => x (ix2 r j)) (fun j => w (ix2 0 j))

theorem pay1_apply (r : Fin 1152) (k : Fin 4096) : k0_pay1 x w (ix2 r k) = nrow x w r k := by
  unfold k0_pay1 nrow rmsRow
  pointwise

theorem rowMax_apply (y : FVec Ideal S1152x4096 .f32) (r : Fin 1152) :
    shapeCast S1152x1 (multiReduction .maximumf [1] S1152 (absf y) 0xFF800000#32 reduces_S1152x4096_S1152 (.inl rfl) rfl) shapeCasts_S1152_S1152x1 (ix2 r 0)
      = (Finset.univ : Finset (Fin 4096)).fold max (Ideal.ofBits .f32 0xFF800000#32) fun j => FloatOps.absf (F := Ideal) (φ := .f32) (y (ix2 r j)) := by
  pointwise

theorem scale_apply (p : FVec Ideal S1152x1 .f32) (r : Fin 1152) :
    select (cmpf .oeq p (broadcast S1152x1 (Scalar.ofBits .f32 0x00000000#32))) (broadcast S1152x1 (Scalar.ofBits .f32 0x3F800000#32))
      (divf p (broadcast S1152x1 (Scalar.ofBits .f32 0x43E00000#32))) (ix2 r 0) = scaleOf (p (ix2 r 0)) := by
  unfold scaleOf
  pointwise

theorem pay2_apply (r : Fin 1152) : k0_pay2 x w (ix2 r 0) = rowScale (nrow x w r) := by
  rw [show nrow x w r = fun j => k0_pay1 x w (ix2 r j) from funext fun j => (pay1_apply x w r j).symm]
  exact (scale_apply _ r).trans (congrArg scaleOf (rowMax_apply (k0_pay1 x w) r))

theorem lanes_apply (p : FVec Ideal S1152x1 .f32) (r : Fin 1152) (l : Fin 128) :
    broadcastTo S1152x128 (shapeCast S1152x1 p shapeCasts_S1152x1_S1152x1) broadcasts_S1152x1_S1152x128 (ix2 r l) = p (ix2 r 0) := by
  pointwise

theorem codes_apply (y : FVec Ideal S1152x4096 .f32) (p : FVec Ideal S1152x1 .f32) (r : Fin 1152) (k : Fin 4096) :
    truncf .fp8e4m3 (minimumf (broadcast S1152x4096 (Scalar.ofBits .f32 0x43E00000#32)) (maximumf (broadcast S1152x4096 (Scalar.ofBits .f32 0xC3E00000#32))
      (divf y (broadcastTo S1152x4096 p broadcasts_S1152x1_S1152x4096)))) bitsLt_fp8e4m3_f32 (ix2 r k)
      = min (Ideal.ofBits .f32 0x43E00000#32) (max (Ideal.ofBits .f32 0xC3E00000#32) (Ideal.div (y (ix2 r k)) (p (ix2 r 0)))) := by
  pointwise

theorem pay3_apply (r : Fin 1152) (k : Fin 4096) : k0_pay3 x w (ix2 r k) = rowCode (nrow x w r) k := by
  refine (codes_apply (k0_pay1 x w) (k0_pay2 x w) r k).trans ?_
  rw [pay2_apply, pay1_apply]; rfl

theorem pay4_apply (r : Fin 1152) (l : Fin 128) : k0_pay4 x w (ix2 r l) = rowScale (nrow x w r) := by
  exact (lanes_apply (k0_pay2 x w) r l).trans (pay2_apply x w r)

end Cert.NormQuantHRefIdealTile

namespace Cert.NormQuantHIdealTile

open Cert.NormQuantHIdeal Cert.NormQuantHIdeal.Gen Cert.Sparse
open Idealize.ShloMosaic Idealize.ShloMosaic.TcCoe Idealize.SL.Sem

variable (m : (ℓ : Loc nD τ sig) → Buf (Elt Ideal) ℓ) (c : Dev nD)

theorem idx0 : ∀ t : Fin grid0.N, cc0_transform_0 (grid0.coords t) 0 = t.val ∧ cc0_transform_0 (grid0.coords t) 1 = 0 := by decide +kernel
theorem idx2 : ∀ t : Fin grid0.N, cc0_transform_2 (grid0.coords t) 0 = t.val ∧ cc0_transform_2 (grid0.coords t) 1 = 0 := by decide +kernel
theorem idx3 : ∀ t : Fin grid0.N, cc0_transform_3 (grid0.coords t) 0 = t.val ∧ cc0_transform_3 (grid0.coords t) 1 = 0 := by decide +kernel
theorem idx1 : ∀ t : Fin grid0.N, cc0_transform_1 (grid0.coords t) 0 = 0 ∧ cc0_transform_1 (grid0.coords t) 1 = 0 := by decide +kernel

theorem tlt (t : Fin cfg0.N) : t.val < 9 := t.isLt.trans_eq N_0

theorem blk0 (t : Fin cfg0.N) (r : Fin 128) (k : Fin 4096) :
    (iblk m c 0 t : S128x4096.Idx → EReal) (ix2 r k) = (m ((c : Thread nD τ).loc main_arg0) : S1152x4096.Idx → EReal) (ix2 ⟨128 * t.val + r.val, by have := tlt t; omega⟩ k) := by
  rw [← V_main_arg0 m c]
  unfold iblk
  rw [View.read_apply, cast_eq]
  refine congrArg _ (funext (Fin.forall_fin_two.2 ⟨Fin.ext ?_, Fin.ext ?_⟩))
  · show cc0_transform_0 (grid0.coords t) 0 * 128 + 1 * r.val = 128 * t.val + r.val
    have := tlt t
    rw [(idx0 t).1]; omega
  · show cc0_transform_0 (grid0.coords t) 1 * 4096 + 1 * k.val = k.val
    rw [(idx0 t).2]; omega

theorem V_v0 (n : Fin 4096) :
    (V m c main_v0 : S1x4096.Idx → EReal) (ix2 0 n) = (m ((c : Thread nD τ).loc main_arg1) : S4096.Idx → EReal) (ix1 n) := by
  have h : (V m c main_v0 : S1x4096.Idx → EReal) = shapeCast S1x4096 (m ((c : Thread nD τ).loc main_arg1)) shapeCasts_S4096_S1x4096 := by
    dsimp only [V, hostOps0]; after_results; rfl
  rw [h]
  refine shapeCast_apply _ _ _ (ix1 n) ?_
  rw [Shape.rowMajor_val_two, Shape.rowMajor_val_one]
  show n.val = 0 * 4096 + n.val
  omega

theorem blk1 (t : Fin cfg0.N) (k : Fin 4096) :
    (iblk m c 1 t : S1x4096.Idx → EReal) (ix2 0 k) = (m ((c : Thread nD τ).loc main_arg1) : S4096.Idx → EReal) (ix1 k) := by
  rw [← V_v0 m c]
  unfold iblk
  rw [View.read_apply, cast_eq]
  refine congrArg _ (funext (Fin.forall_fin_two.2 ⟨Fin.ext ?_, Fin.ext ?_⟩))
  · show cc0_transform_1 (grid0.coords t) 0 * 1 + 1 * 0 = 0
    rw [(idx1 t).1]
  · show cc0_transform_1 (grid0.coords t) 1 * 4096 + 1 * k.val = k.val
    rw [(idx1 t).2]; omega

theorem two_zero : ∀ a : Fin 2, (![0, 0] : Fin 2 → Nat) a = 0 := by decide

theorem ld_x {e : EltTy} (x : Vec Ideal S128x4096 e) : View.ld (Val := Elt Ideal) (e' := e) x r0_0 = x :=
  View.ld_unit_lit (S := S128x4096) _ _ two_zero
theorem ld_w {e : EltTy} (x : Vec Ideal S1x4096 e) : View.ld (Val := Elt Ideal) (e' := e) x r0_1 = x :=
  View.ld_unit_lit (S := S1x4096) _ _ two_zero

theorem out_codes (x : Vec Ideal S128x4096 .f32) (w : Vec Ideal S1x4096 .f32) : out0_2 x w = k0_pay3 x w := by
  unfold out0_2
  rw [ld_x, ld_w]
  exact View.canon_cons_unit_lit (S := S128x4096) _ _ _ two_zero

theorem out_scale (x : Vec Ideal S128x4096 .f32) (w : Vec Ideal S1x4096 .f32) : out0_3 x w = k0_pay4 x w := by
  unfold out0_3
  rw [ld_x, ld_w]
  exact View.canon_cons_unit_lit (S := S128x128) _ _ _ two_zero

/-- The row that is quantised. -/
def row (r : Fin 1152) : Fin 4096 → EReal :=
  rmsRow (fun j => (m ((c : Thread nD τ).loc main_arg0) : S1152x4096.Idx → EReal) (ix2 r j)) fun j => (m ((c : Thread nD τ).loc main_arg1) : S4096.Idx → EReal) (ix1 j)

theorem row_eq (t : Fin cfg0.N) (r : Fin 128) : nrow (iblk m c 0 t) (iblk m c 1 t) r = row m c ⟨128 * t.val + r.val, by have := tlt t; omega⟩ :=
  congrArg₂ rmsRow (funext fun j => blk0 m c t r j) (funext fun j => blk1 m c t j)

/-- The codes after the run. -/
theorem final_codes (r : Fin 1152) (k : Fin 4096) :
    ((dats m 0 c).arrAt 2 cfg0.N : S1152x4096.Idx → EReal) (ix2 r k) = rowCode (row m c r) k := by
  have hr := r.isLt
  have hN : r.val / 128 < cfg0.N := lt_of_lt_of_eq (by omega) N_0.symm
  have h := congrFun (Cert.NormQuantHIdeal.Value.blocks2 m c ⟨r.val / 128, hN⟩ (flush0_2 _)) (ix2 ⟨r.val % 128, by omega⟩ k)
  rw [Cert.NormQuantHIdeal.Value.flushed2, View.read_apply, cast_eq, out_codes] at h
  have e := (pay3_apply (iblk m c 0 ⟨r.val / 128, hN⟩) (iblk m c 1 ⟨r.val / 128, hN⟩) ⟨r.val % 128, by omega⟩ k).trans (congrArg (fun f => rowCode f k) (row_eq m c ⟨r.val / 128, hN⟩ ⟨r.val % 128, by omega⟩))
  refine Eq.trans (congrArg _ (funext (Fin.forall_fin_two.2 ⟨Fin.ext ?_, Fin.ext ?_⟩))) (h.trans (e.trans (congrArg (fun r => rowCode (row m c r) k) (Fin.ext ?_))))
  · show r.val = cc0_transform_2 (grid0.coords ⟨r.val / 128, hN⟩) 0 * 128 + 1 * (r.val % 128)
    rw [(idx2 _).1]; show r.val = r.val / 128 * 128 + 1 * (r.val % 128); omega
  · show k.val = cc0_transform_2 (grid0.coords ⟨r.val / 128, hN⟩) 1 * 4096 + 1 * k.val
    rw [(idx2 _).2]; omega
  · show 128 * (r.val / 128) + r.val % 128 = r.val
    omega

/-- The scale after the run. -/
theorem final_scale (r : Fin 1152) (k : Fin 128) :
    ((dats m 0 c).arrAt 3 cfg0.N : S1152x128.Idx → EReal) (ix2 r k) = rowScale (row m c r) := by
  have hr := r.isLt
  have hN : r.val / 128 < cfg0.N := lt_of_lt_of_eq (by omega) N_0.symm
  have h := congrFun (Cert.NormQuantHIdeal.Value.blocks3 m c ⟨r.val / 128, hN⟩ (flush0_3 _)) (ix2 ⟨r.val % 128, by omega⟩ k)
  rw [Cert.NormQuantHIdeal.Value.flushed3, View.read_apply, cast_eq, out_scale] at h
  have e := (pay4_apply (iblk m c 0 ⟨r.val / 128, hN⟩) (iblk m c 1 ⟨r.val / 128, hN⟩) ⟨r.val % 128, by omega⟩ k).trans (congrArg (rowScale) (row_eq m c ⟨r.val / 128, hN⟩ ⟨r.val % 128, by omega⟩))
  refine Eq.trans (congrArg _ (funext (Fin.forall_fin_two.2 ⟨Fin.ext ?_, Fin.ext ?_⟩))) (h.trans (e.trans (congrArg (fun r => rowScale (row m c r)) (Fin.ext ?_))))
  · show r.val = cc0_transform_3 (grid0.coords ⟨r.val / 128, hN⟩) 0 * 128 + 1 * (r.val % 128)
    rw [(idx3 _).1]; show r.val = r.val / 128 * 128 + 1 * (r.val % 128); omega
  · show k.val = cc0_transform_3 (grid0.coords ⟨r.val / 128, hN⟩) 1 * 128 + 1 * k.val
    rw [(idx3 _).2]; omega
  · show 128 * (r.val / 128) + r.val % 128 = r.val
    omega

end Cert.NormQuantHIdealTile

namespace Cert.NormQuantHRefIdealTile

open Cert.NormQuantHRefIdeal Cert.NormQuantHRefIdeal.Gen Cert.Sparse
open Idealize.ShloMosaic Idealize.ShloMosaic.TcCoe Idealize.SL.Sem

variable (m : (ℓ : Loc nD τ sig) → Buf (Elt Ideal) ℓ) (c : Dev nD)

theorem tlt (t : Fin cfg0.N) : t.val < 1 := t.isLt.trans_eq N_0

theorem blk0 (t : Fin cfg0.N) (r : Fin 1152) (k : Fin 4096) :
    (iblk m c 0 t : S1152x4096.Idx → EReal) (ix2 r k) = (m ((c : Thread nD τ).loc main_arg0) : S1152x4096.Idx → EReal) (ix2 ⟨1152 * t.val + r.val, by have := tlt t; omega⟩ k) := by
  rw [← V_main_arg0 m c]
  unfold iblk
  rw [View.read_apply, cast_eq]
  refine congrArg _ (funext (Fin.forall_fin_two.2 ⟨Fin.ext ?_, Fin.ext ?_⟩))
  · show 0 * 1152 + 1 * r.val = 1152 * t.val + r.val
    have := tlt t
    omega
  · show 0 * 4096 + 1 * k.val = k.val
    omega

theorem V_v0 (n : Fin 4096) :
    (V m c main_v0 : S1x4096.Idx → EReal) (ix2 0 n) = (m ((c : Thread nD τ).loc main_arg1) : S4096.Idx → EReal) (ix1 n) := by
  have h : (V m c main_v0 : S1x4096.Idx → EReal) = shapeCast S1x4096 (m ((c : Thread nD τ).loc main_arg1)) shapeCasts_S4096_S1x4096 := by
    dsimp only [V, hostOps0]; after_results; rfl
  rw [h]
  refine shapeCast_apply _ _ _ (ix1 n) ?_
  rw [Shape.rowMajor_val_two, Shape.rowMajor_val_one]
  show n.val = 0 * 4096 + n.val
  omega

theorem blk1 (t : Fin cfg0.N) (k : Fin 4096) :
    (iblk m c 1 t : S1x4096.Idx → EReal) (ix2 0 k) = (m ((c : Thread nD τ).loc main_arg1) : S4096.Idx → EReal) (ix1 k) := by
  rw [← V_v0 m c]
  unfold iblk
  rw [View.read_apply, cast_eq]
  refine congrArg _ (funext (Fin.forall_fin_two.2 ⟨Fin.ext ?_, Fin.ext ?_⟩))
  · show 0 * 1 + 1 * 0 = 0
    rfl
  · show 0 * 4096 + 1 * k.val = k.val
    omega

theorem two_zero : ∀ a : Fin 2, (![0, 0] : Fin 2 → Nat) a = 0 := by decide

theorem ld_x {e : EltTy} (x : Vec Ideal S1152x4096 e) : View.ld (Val := Elt Ideal) (e' := e) x r0_0 = x :=
  View.ld_unit_lit (S := S1152x4096) _ _ two_zero
theorem ld_w {e : EltTy} (x : Vec Ideal S1x4096 e) : View.ld (Val := Elt Ideal) (e' := e) x r0_1 = x :=
  View.ld_unit_lit (S := S1x4096) _ _ two_zero

theorem out_codes (x : Vec Ideal S1152x4096 .f32) (w : Vec Ideal S1x4096 .f32) : out0_2 x w = k0_pay3 x w := by
  unfold out0_2
  rw [ld_x, ld_w]
  exact View.canon_cons_unit_lit (S := S1152x4096) _ _ _ two_zero

theorem out_scale (x : Vec Ideal S1152x4096 .f32) (w : Vec Ideal S1x4096 .f32) : out0_3 x w = k0_pay4 x w := by
  unfold out0_3
  rw [ld_x, ld_w]
  exact View.canon_cons_unit_lit (S := S1152x128) _ _ _ two_zero

/-- The row that is quantised. -/
def row (r : Fin 1152) : Fin 4096 → EReal :=
  rmsRow (fun j => (m ((c : Thread nD τ).loc main_arg0) : S1152x4096.Idx → EReal) (ix2 r j)) fun j => (m ((c : Thread nD τ).loc main_arg1) : S4096.Idx → EReal) (ix1 j)

theorem row_eq (t : Fin cfg0.N) (r : Fin 1152) : nrow (iblk m c 0 t) (iblk m c 1 t) r = row m c ⟨1152 * t.val + r.val, by have := tlt t; omega⟩ :=
  congrArg₂ rmsRow (funext fun j => blk0 m c t r j) (funext fun j => blk1 m c t j)

/-- The codes after the run. -/
theorem final_codes (r : Fin 1152) (k : Fin 4096) :
    ((dats m 0 c).arrAt 2 cfg0.N : S1152x4096.Idx → EReal) (ix2 r k) = rowCode (row m c r) k := by
  have hr := r.isLt
  have hN : r.val / 1152 < cfg0.N := lt_of_lt_of_eq (by omega) N_0.symm
  have h := congrFun (Cert.NormQuantHRefIdeal.Value.blocks2 m c ⟨r.val / 1152, hN⟩ (flush0_2 _)) (ix2 ⟨r.val % 1152, by omega⟩ k)
  rw [Cert.NormQuantHRefIdeal.Value.flushed2, View.read_apply, cast_eq, out_codes] at h
  have e := (pay3_apply (iblk m c 0 ⟨r.val / 1152, hN⟩) (iblk m c 1 ⟨r.val / 1152, hN⟩) ⟨r.val % 1152, by omega⟩ k).trans (congrArg (fun f => rowCode f k) (row_eq m c ⟨r.val / 1152, hN⟩ ⟨r.val % 1152, by omega⟩))
  refine Eq.trans (congrArg _ (funext (Fin.forall_fin_two.2 ⟨Fin.ext ?_, Fin.ext ?_⟩))) (h.trans (e.trans (congrArg (fun r => rowCode (row m c r) k) (Fin.ext ?_))))
  · show r.val = 0 * 1152 + 1 * (r.val % 1152)
    omega
  · show k.val = 0 * 4096 + 1 * k.val
    omega
  · show 1152 * (r.val / 1152) + r.val % 1152 = r.val
    omega

/-- The scale after the run. -/
theorem final_scale (r : Fin 1152) (k : Fin 128) :
    ((dats m 0 c).arrAt 3 cfg0.N : S1152x128.Idx → EReal) (ix2 r k) = rowScale (row m c r) := by
  have hr := r.isLt
  have hN : r.val / 1152 < cfg0.N := lt_of_lt_of_eq (by omega) N_0.symm
  have h := congrFun (Cert.NormQuantHRefIdeal.Value.blocks3 m c ⟨r.val / 1152, hN⟩ (flush0_3 _)) (ix2 ⟨r.val % 1152, by omega⟩ k)
  rw [Cert.NormQuantHRefIdeal.Value.flushed3, View.read_apply, cast_eq, out_scale] at h
  have e := (pay4_apply (iblk m c 0 ⟨r.val / 1152, hN⟩) (iblk m c 1 ⟨r.val / 1152, hN⟩) ⟨r.val % 1152, by omega⟩ k).trans (congrArg (rowScale) (row_eq m c ⟨r.val / 1152, hN⟩ ⟨r.val % 1152, by omega⟩))
  refine Eq.trans (congrArg _ (funext (Fin.forall_fin_two.2 ⟨Fin.ext ?_, Fin.ext ?_⟩))) (h.trans (e.trans (congrArg (fun r => rowScale (row m c r)) (Fin.ext ?_))))
  · show r.val = 0 * 1152 + 1 * (r.val % 1152)
    omega
  · show k.val = 0 * 128 + 1 * k.val
    omega
  · show 1152 * (r.val / 1152) + r.val % 1152 = r.val
    omega

end Cert.NormQuantHRefIdealTile
-- ==== Proof.lean ====
module

public import proofs.«01_k».proof.Defs
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpRefIdeal
public import proofs.«01_k».proof.Proof.Gen.GateUpRefIdeal.Skeleton
public import proofs.«01_k».proof.Proof.Gen.GateUpRefIdeal.Launch
public import proofs.«01_k».proof.Proof.Gen.GateUpRefIdeal.Points
public import proofs.«01_k».proof.Proof.Gen.GateUpRefIdeal.Frame
public import proofs.«01_k».proof.Proof.Gen.Pre_valid_meta
public import proofs.«01_k».proof.Proof.Gen.GateUpIdeal.Value
public import proofs.«01_k».proof.Proof.Gen.GateUpRefIdeal.Value
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.OutProjRefIdeal.Skeleton
public import proofs.«01_k».proof.Proof.Gen.OutProjRefIdeal.Launch
public import proofs.«01_k».proof.Proof.Gen.OutProjRefIdeal.Points
public import proofs.«01_k».proof.Proof.Gen.OutProjRefIdeal.Frame
public import proofs.«01_k».proof.Proof.Gen.NormQuant
public import proofs.«01_k».proof.Proof.Gen.NormQuantH
public import proofs.«01_k».proof.Proof.Gen.NormQuant.Skeleton
public import proofs.«01_k».proof.Proof.Gen.NormQuantH.Skeleton
public import proofs.«01_k».proof.Proof.Gen.NormQuant.Launch
public import proofs.«01_k».proof.Proof.Gen.NormQuantH.Launch
public import proofs.«01_k».proof.Proof.Gen.NormQuant.Points
public import proofs.«01_k».proof.Proof.Gen.NormQuantH.Points
public import proofs.«01_k».proof.Proof.Gen.NormQuant.Frame
public import proofs.«01_k».proof.Proof.Gen.NormQuantH.Frame
public import proofs.«01_k».proof.Proof.Gen.NormQuantIdeal
public import proofs.«01_k».proof.Proof.Gen.NormQuantHIdeal
public import proofs.«01_k».proof.Proof.Gen.NormQuantIdeal.Skeleton
public import proofs.«01_k».proof.Proof.Gen.NormQuantHIdeal.Skeleton
public import proofs.«01_k».proof.Proof.Gen.NormQuantIdeal.Launch
public import proofs.«01_k».proof.Proof.Gen.NormQuantHIdeal.Launch
public import proofs.«01_k».proof.Proof.Gen.NormQuantIdeal.Points
public import proofs.«01_k».proof.Proof.Gen.NormQuantHIdeal.Points
public import proofs.«01_k».proof.Proof.Gen.NormQuantIdeal.Frame
public import proofs.«01_k».proof.Proof.Gen.NormQuantHIdeal.Frame
public import proofs.«01_k».proof.Proof.Gen.NormQuantRefIdeal
public import proofs.«01_k».proof.Proof.Gen.NormQuantHRefIdeal
public import proofs.«01_k».proof.Proof.Gen.NormQuantRefIdeal.Skeleton
public import proofs.«01_k».proof.Proof.Gen.NormQuantHRefIdeal.Skeleton
public import proofs.«01_k».proof.Proof.Gen.NormQuantRefIdeal.Launch
public import proofs.«01_k».proof.Proof.Gen.NormQuantHRefIdeal.Launch
public import proofs.«01_k».proof.Proof.Gen.NormQuantRefIdeal.Points
public import proofs.«01_k».proof.Proof.Gen.NormQuantHRefIdeal.Points
public import proofs.«01_k».proof.Proof.Gen.NormQuantRefIdeal.Frame
public import proofs.«01_k».proof.Proof.Gen.NormQuantHRefIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.Gen.OutProjIdeal.Value
public import proofs.«01_k».proof.Proof.Gen.OutProjRefIdeal.Value
public import proofs.«01_k».proof.Proof.Gen.NormQuantIdeal.Value
public import proofs.«01_k».proof.Proof.Gen.NormQuantHIdeal.Value
public import proofs.«01_k».proof.Proof.Gen.NormQuantRefIdeal.Value
public import proofs.«01_k».proof.Proof.Gen.NormQuantHRefIdeal.Value
public import proofs.«01_k».proof.Proof.Gen.QuantIdeal.Value
public import proofs.«01_k».proof.Proof.Gen.QuantRefIdeal.Value
public import proofs.«01_k».proof.Proof.Gen.Pre_valid_meta_out
public import proofs.«01_k».proof.Proof.Own.Points
public import proofs.«01_k».proof.Proof.Own.RefInputs
public import proofs.«01_k».proof.Proof.Own.Meta
public import proofs.«01_k».proof.Proof.Own.OutRef
public import proofs.«01_k».proof.Proof.Own.MetaOut
public import proofs.«01_k».proof.Proof.Own.QuantFinal
public import proofs.«01_k».proof.Proof.Own.QuantH
public import Idealize.ShloMosaic.Adequacy
public import Idealize.ShloMosaic.Init

@[expose] public section

noncomputable section

namespace Cert.Proof

open Idealize.ShloMosaic Idealize.SL.Sem Cert.GateUp

/-- The kernel's activation array. -/
def actArr (m : (ℓ : Loc Cert.GateUpIdeal.nD Cert.GateUpIdeal.τ Cert.GateUpIdeal.sig) → Buf (Elt Ideal) ℓ) (c : Dev Cert.GateUpIdeal.nD) :
    Cert.GateUpIdeal.S1152x14336.Idx → EReal :=
  (Cert.GateUpIdeal.Gen.dats m 0 c).arrAt 8 Cert.GateUpIdeal.cfg0.N

/-- The kernel's scale array. -/
def scaleArr (m : (ℓ : Loc Cert.GateUpIdeal.nD Cert.GateUpIdeal.τ Cert.GateUpIdeal.sig) → Buf (Elt Ideal) ℓ) (c : Dev Cert.GateUpIdeal.nD) :
    Cert.GateUpIdeal.S1152x128.Idx → EReal :=
  (Cert.GateUpIdeal.Gen.dats m 0 c).arrAt 9 Cert.GateUpIdeal.cfg0.N

section
variable (m : (ℓ : Loc Cert.GateUpIdeal.nD Cert.GateUpIdeal.τ Cert.GateUpIdeal.sig) → Buf (Elt Ideal) ℓ)
  (m' : (ℓ : Loc Cert.GateUpRefIdeal.nD Cert.GateUpRefIdeal.τ Cert.GateUpRefIdeal.sig) → Buf (Elt Ideal) ℓ) (c : Dev Cert.GateUpIdeal.nD)

/-- From equal arguments the two programs' activations are the same function of the arguments. -/
theorem actOf_eq
    (h0 : m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0))
    (h1 : m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1))
    (h2 : m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2))
    (h3 : m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3))
    (h4 : m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) :
    Cert.GateUpRefTile.actOf m' c = Cert.GateUpTile.actOf m c := by
  funext r n
  unfold Cert.GateUpRefTile.actOf Cert.GateUpTile.actOf
  exact congr (congr (congr (congr (congr (congr (congrArg Cert.Sparse.act h0) h1) h2) h3) h4) rfl) rfl
end

theorem ext2 {a b : Nat} {f g : (⟨2, ![a, b]⟩ : Shape).Idx → EReal} (h : ∀ (i : Fin a) (j : Fin b), f (ix2 i j) = g (ix2 i j)) : f = g := by
  funext x
  have e : x = ix2 (x 0) (x 1) := by
    funext k; match k with | ⟨0, _⟩ => rfl | ⟨1, _⟩ => rfl
  rw [e]
  exact h _ _

/-- The kernel's precondition gives ordered metadata. -/
theorem metaOk (m : (ℓ : Loc Cert.GateUpIdeal.nD Cert.GateUpIdeal.τ Cert.GateUpIdeal.sig) → Buf (Elt Ideal) ℓ)
    (hp : Cert.Pre_GateUpIdeal_valid_meta m) (c : Dev Cert.GateUpIdeal.nD) : Cert.GateUpTile.MetaOk m c :=
  Cert.Sparse.allOrdered_of_fn _ _ _ _ _ fun i => congrFun (hp c) i

/-- The kernel and the reference leave equal results. -/
theorem algebraic : Cert.algebraic_GateUpIdeal_GateUpRefIdeal_pre_valid_meta := by
  intro m g m' g' hp ha
  refine ⟨actArr m, scaleArr m, Cert.GateUpIdeal.Value.run_blocks m g, ?_⟩
  refine (θ_run _ _ _).mono (fun r h c => ?_) (Cert.GateUpRefIdeal.Value.run_blocks m' g')
  obtain ⟨r0, r1, hk⟩ := h c
  obtain ⟨h0, h1, h2, h3, h4⟩ := ha c
  have ho := metaOk m hp c
  have e := actOf_eq m m' c h0 h1 h2 h3 h4
  refine ⟨r0.trans ?_, r1.trans ?_, hk⟩
  · refine ext2 (a := 1152) (b := 14336) fun i j => ?_
    exact (Cert.GateUpRefTile.final_act m' c i j).trans ((congrFun (congrFun e i) j).trans (Cert.GateUpTile.final_act m c ho i j).symm)
  · refine ext2 (a := 1152) (b := 128) fun i l => ?_
    exact (Cert.GateUpRefTile.final_scale m' c i l).trans
      ((congrArg (fun f : Fin 1152 → Fin 14336 → EReal => Cert.Sparse.scaleOf (Cert.Sparse.top (f i))) e).trans (Cert.GateUpTile.final_scale m c ho i l).symm)

/-- The output projection's precondition gives ordered metadata. -/
theorem metaOkOut (m : (ℓ : Loc Cert.OutProjIdeal.nD Cert.OutProjIdeal.τ Cert.OutProjIdeal.sig) → Buf (Elt Ideal) ℓ)
    (hp : Cert.Pre_OutProjIdeal_valid_meta_out m) (c : Dev Cert.OutProjIdeal.nD) : Cert.OutProjTile.MetaOk m c :=
  Cert.Sparse.allOrdered_of_fn_out _ _ _ _ _ _ fun i => congrFun (hp c) i

/-- The output projection and its reference leave equal results. -/
theorem algebraicOut : Cert.algebraic_OutProjIdeal_OutProjRefIdeal_pre_valid_meta_out := by
  intro m g m' g' hp ha
  refine ⟨fun c => (Cert.OutProjIdeal.Gen.dats m 0 c).arrAt 6 Cert.OutProjIdeal.cfg0.N, Cert.OutProjIdeal.Value.run_blocks m g, ?_⟩
  refine (θ_run _ _ _).mono (fun r h c => ?_) (Cert.OutProjRefIdeal.Value.run_blocks m' g')
  obtain ⟨r0, hk⟩ := h c
  obtain ⟨h0, h1, h2, h3, h4, h5⟩ := ha c
  have ho := metaOkOut m hp c
  refine ⟨r0.trans ?_, hk⟩
  refine ext2 (a := 1152) (b := 4096) fun i j => ?_
  refine (Cert.OutProjRefTile.final_val m' c i j).trans (Eq.trans ?_ (Cert.OutProjTile.final_val m c ho i j).symm)
  unfold Cert.OutProjRefTile.valOf Cert.OutProjTile.valOf
  exact congrFun (congrFun (congr (congr (congr (congr (congr (congrArg Cert.Sparse.outProj h0) h1) h2) h3) h4) h5) i) j

/-- The normalised quantisation and its reference leave equal codes and scales. -/
theorem algebraicNorm : Cert.algebraic_NormQuantIdeal_NormQuantRefIdeal := by
  intro m g m' g' _ ha
  refine ⟨fun c => (Cert.NormQuantIdeal.Gen.dats m 0 c).arrAt 2 Cert.NormQuantIdeal.cfg0.N,
    fun c => (Cert.NormQuantIdeal.Gen.dats m 0 c).arrAt 3 Cert.NormQuantIdeal.cfg0.N, ?_, ?_⟩
  · exact (θ_run _ _ _).mono (fun r h c => ⟨(h c).1, (h c).2.1, (h c).2.2.2⟩) (Cert.NormQuantIdeal.Value.run_blocks m g)
  · refine (θ_run _ _ _).mono (fun r h c => ?_) (Cert.NormQuantRefIdeal.Value.run_blocks m' g')
    obtain ⟨r0, r1, hk⟩ := h c
    obtain ⟨h0, h1⟩ := ha c
    have e : ∀ i, Cert.NormQuantRefIdealTile.row m' c i = Cert.NormQuantIdealTile.row m c i := fun i =>
      congrArg₂ Cert.Sparse.rmsRow (funext fun j => congrFun h0 (ix2 i j)) (funext fun j => congrFun h1 (ix1 j))
    refine ⟨r0.trans ?_, r1.trans ?_, hk⟩
    · refine ext2 (a := 1152) (b := 4096) fun i j => ?_
      exact (Cert.NormQuantRefIdealTile.final_codes m' c i j).trans ((congrArg (fun f => Cert.Sparse.rowCode f j) (e i)).trans (Cert.NormQuantIdealTile.final_codes m c i j).symm)
    · refine ext2 (a := 1152) (b := 128) fun i l => ?_
      exact (Cert.NormQuantRefIdealTile.final_scale m' c i l).trans ((congrArg Cert.Sparse.rowScale (e i)).trans (Cert.NormQuantIdealTile.final_scale m c i l).symm)

/-- The quantisation and its reference leave equal codes and scales. -/
theorem algebraicQuant : Cert.algebraic_QuantIdeal_QuantRefIdeal := by
  intro m g m' g' _ ha
  refine ⟨fun c => (Cert.QuantIdeal.Gen.dats m 0 c).arrAt 1 Cert.QuantIdeal.cfg0.N,
    fun c => (Cert.QuantIdeal.Gen.dats m 0 c).arrAt 2 Cert.QuantIdeal.cfg0.N, ?_, ?_⟩
  · exact (θ_run _ _ _).mono (fun r h c => ⟨(h c).1, (h c).2.1, (h c).2.2.2⟩) (Cert.QuantIdeal.Value.run_blocks m g)
  · refine (θ_run _ _ _).mono (fun r h c => ?_) (Cert.QuantRefIdeal.Value.run_blocks m' g')
    obtain ⟨r0, r1, hk⟩ := h c
    have h0 := ha c
    have e : ∀ i, Cert.QuantRefIdealTile.row m' c i = Cert.QuantIdealTile.row m c i := fun i => funext fun j => congrFun h0 (ix2 i j)
    refine ⟨r0.trans ?_, r1.trans ?_, hk⟩
    · refine ext2 (a := 1152) (b := 4096) fun i j => ?_
      exact (Cert.QuantRefIdealTile.final_codes m' c i j).trans ((congrArg (fun f => Cert.Sparse.rowCode f j) (e i)).trans (Cert.QuantIdealTile.final_codes m c i j).symm)
    · refine ext2 (a := 1152) (b := 128) fun i l => ?_
      exact (Cert.QuantRefIdealTile.final_scale m' c i l).trans ((congrArg Cert.Sparse.rowScale (e i)).trans (Cert.QuantIdealTile.final_scale m c i l).symm)

/-- The normalised quantisation of an f32 input and its reference leave equal codes and scales. -/
theorem algebraicNormH : Cert.algebraic_NormQuantHIdeal_NormQuantHRefIdeal := by
  intro m g m' g' _ ha
  refine ⟨fun c => (Cert.NormQuantHIdeal.Gen.dats m 0 c).arrAt 2 Cert.NormQuantHIdeal.cfg0.N,
    fun c => (Cert.NormQuantHIdeal.Gen.dats m 0 c).arrAt 3 Cert.NormQuantHIdeal.cfg0.N, ?_, ?_⟩
  · exact (θ_run _ _ _).mono (fun r h c => ⟨(h c).1, (h c).2.1, (h c).2.2.2⟩) (Cert.NormQuantHIdeal.Value.run_blocks m g)
  · refine (θ_run _ _ _).mono (fun r h c => ?_) (Cert.NormQuantHRefIdeal.Value.run_blocks m' g')
    obtain ⟨r0, r1, hk⟩ := h c
    obtain ⟨h0, h1⟩ := ha c
    have e : ∀ i, Cert.NormQuantHRefIdealTile.row m' c i = Cert.NormQuantHIdealTile.row m c i := fun i =>
      congrArg₂ Cert.Sparse.rmsRow (funext fun j => congrFun h0 (ix2 i j)) (funext fun j => congrFun h1 (ix1 j))
    refine ⟨r0.trans ?_, r1.trans ?_, hk⟩
    · refine ext2 (a := 1152) (b := 4096) fun i j => ?_
      exact (Cert.NormQuantHRefIdealTile.final_codes m' c i j).trans ((congrArg (fun f => Cert.Sparse.rowCode f j) (e i)).trans (Cert.NormQuantHIdealTile.final_codes m c i j).symm)
    · refine ext2 (a := 1152) (b := 128) fun i l => ?_
      exact (Cert.NormQuantHRefIdealTile.final_scale m' c i l).trans ((congrArg Cert.Sparse.rowScale (e i)).trans (Cert.NormQuantHIdealTile.final_scale m c i l).symm)

/-- Every claim of the certificate. -/
theorem claim : Cert.Claim :=
  ⟨Cert.GateUp.Gen.facts, Cert.GateUpIdeal.Gen.facts, Cert.GateUpRefIdeal.Gen.facts,
    Cert.OutProj.Gen.facts, Cert.OutProjIdeal.Gen.facts, Cert.OutProjRefIdeal.Gen.facts,
    Cert.NormQuant.Gen.facts, Cert.NormQuantIdeal.Gen.facts, Cert.NormQuantRefIdeal.Gen.facts,
    Cert.Quant.Gen.facts, Cert.QuantIdeal.Gen.facts, Cert.QuantRefIdeal.Gen.facts,
    Cert.NormQuantH.Gen.facts, Cert.NormQuantHIdeal.Gen.facts, Cert.NormQuantHRefIdeal.Gen.facts,
    Cert.Pre_valid_meta.Gen.facts, Cert.Pre_valid_meta_out.Gen.facts,
    fun m g _ => Cert.GateUp.Gen.frame m g, fun m g _ => Cert.GateUpIdeal.Gen.frame m g, fun m g _ => Cert.GateUpIdeal.Gen.frame m g,
    fun m g _ => Cert.GateUpRefIdeal.Gen.frame m g, fun m g _ => Cert.GateUpRefIdeal.Gen.frame m g,
    fun m g _ => Cert.OutProj.Gen.frame m g, fun m g _ => Cert.OutProjIdeal.Gen.frame m g, fun m g _ => Cert.OutProjIdeal.Gen.frame m g,
    fun m g _ => Cert.OutProjRefIdeal.Gen.frame m g, fun m g _ => Cert.OutProjRefIdeal.Gen.frame m g,
    fun m g _ => Cert.NormQuant.Gen.frame m g, fun m g _ => Cert.NormQuantIdeal.Gen.frame m g, fun m g _ => Cert.NormQuantRefIdeal.Gen.frame m g,
    fun m g _ => Cert.Quant.Gen.frame m g, fun m g _ => Cert.QuantIdeal.Gen.frame m g, fun m g _ => Cert.QuantRefIdeal.Gen.frame m g,
    fun m g _ => Cert.NormQuantH.Gen.frame m g, fun m g _ => Cert.NormQuantHIdeal.Gen.frame m g, fun m g _ => Cert.NormQuantHRefIdeal.Gen.frame m g,
    trivial, algebraic, trivial, algebraicOut, trivial, algebraicNorm, trivial, algebraicQuant, trivial, algebraicNormH⟩

end Cert.Proof

end
